-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16384x50 : Shape := ⟨2, ![16384, 50]⟩
abbrev S16384x50x2 : Shape := ⟨3, ![16384, 50, 2]⟩
abbrev S24x32 : Shape := ⟨2, ![24, 32]⟩
abbrev S7x32 : Shape := ⟨2, ![7, 32]⟩
abbrev S64x2 : Shape := ⟨2, ![64, 2]⟩
abbrev S64 : Shape := ⟨1, ![64]⟩
abbrev S64x64 : Shape := ⟨2, ![64, 64]⟩
abbrev S_ : Shape := ⟨0, ![]⟩

class Facts : Prop where
  bcast_S_S16384x50 : S_.BroadcastsInDim S16384x50 (![] : Fin 0 → Fin S16384x50.rank)
  bcast_S_S16384x50x2 : S_.BroadcastsInDim S16384x50x2 (![] : Fin 0 → Fin S16384x50x2.rank)
  bcast_S_S64x2 : S_.BroadcastsInDim S64x2 (![] : Fin 0 → Fin S64x2.rank)
  bcast_S_S64 : S_.BroadcastsInDim S64 (![] : Fin 0 → Fin S64.rank)

variable [Facts]

def fn_part1 {F : FTy → Type} [FloatOps F] (main_v4 : IVec S16384x50 1) (main_v9 : IVec S16384x50 1) (main_v12 : IVec S16384x50x2 1) (main_v15 : IVec S64x2 1) (main_v16 : FVec F S64 .f32) (main_cst_4 : FVec F S_ .f32) : IVec S16384x50 1 × IVec S16384x50 1 × IVec S16384x50x2 1 × IVec S64x2 1 × IVec S64 1 :=
  let main_v17 : FVec F S64 .f32 := broadcastInDim S64 ![] bcast_S_S64 main_cst_4
  let main_v18 : IVec S64 1 := cmpf .olt main_v16 main_v17
  (main_v4, main_v9, main_v12, main_v15, main_v18)

def fn {F : FTy → Type} [FloatOps F] (main_arg0 : IVec S16384x50 32) (main_arg1 : IVec S16384x50 32) (main_arg2 : FVec F S16384x50x2 .f32) (main_arg3 : FVec F S24x32 .f32) (main_arg4 : FVec F S7x32 .f32) (main_arg5 : FVec F S64x2 .f32) (main_arg6 : FVec F S64 .f32) (main_arg7 : FVec F S64 .f32) (main_arg8 : FVec F S64 .f32) (main_arg9 : FVec F S64x64 .f32) (main_arg10 : FVec F S64 .f32) : IVec S16384x50 1 × IVec S16384x50 1 × IVec S16384x50x2 1 × IVec S64x2 1 × IVec S64 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 24#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 32 := constantI S_ 32 0#32
  let main_v5 : IVec S16384x50 32 := broadcastInDim S16384x50 ![] bcast_S_S16384x50 main_c_1
  let main_v6 : IVec S16384x50 1 := cmpi .sge main_arg1 main_v5
  let main_c_2 : IVec S_ 32 := constantI S_ 32 7#32
  let main_v7 : IVec S16384x50 32 := broadcastInDim S16384x50 ![] bcast_S_S16384x50 main_c_2
  let main_v8 : IVec S16384x50 1 := cmpi .slt main_arg1 main_v7
  let main_v9 : IVec S16384x50 1 := andi main_v6 main_v8
  let main_v10 : FVec F S16384x50x2 .f32 := Host.absf main_arg2
  let main_cst : FVec F S_ .f32 := constant S_ .f32 0x7F800000#32
  let main_v11 : FVec F S16384x50x2 .f32 := broadcastInDim S16384x50x2 ![] bcast_S_S16384x50x2 main_cst
  let main_v12 : IVec S16384x50x2 1 := cmpf .olt main_v10 main_v11
  let main_v13 : FVec F S64x2 .f32 := Host.absf main_arg5
  let main_cst_3 : FVec F S_ .f32 := constant S_ .f32 0x7F800000#32
  let main_v14 : FVec F S64x2 .f32 := broadcastInDim S64x2 ![] bcast_S_S64x2 main_cst_3
  let main_v15 : IVec S64x2 1 := cmpf .olt main_v13 main_v14
  let main_v16 : FVec F S64 .f32 := Host.absf main_arg6
  let main_cst_4 : FVec F S_ .f32 := constant S_ .f32 0x7F800000#32
  fn_part1 (F := F) main_v4 main_v9 main_v12 main_v15 main_v16 main_cst_4
-- ==== Kernel.lean ====
abbrev S16384x50 : Shape := ⟨2, ![16384, 50]⟩
abbrev S16384x50x2 : Shape := ⟨3, ![16384, 50, 2]⟩
abbrev S24x32 : Shape := ⟨2, ![24, 32]⟩
abbrev S7x32 : Shape := ⟨2, ![7, 32]⟩
abbrev S64x2 : Shape := ⟨2, ![64, 2]⟩
abbrev S64 : Shape := ⟨1, ![64]⟩
abbrev S64x64 : Shape := ⟨2, ![64, 64]⟩
abbrev S32x25600x2 : Shape := ⟨3, ![32, 25600, 2]⟩
abbrev S32x1x25600 : Shape := ⟨3, ![32, 1, 25600]⟩
abbrev S32x2x25600 : Shape := ⟨3, ![32, 2, 25600]⟩
abbrev S_ : Shape := ⟨0, ![]⟩
abbrev S32x5x25600 : Shape := ⟨3, ![32, 5, 25600]⟩
abbrev S2x64 : Shape := ⟨2, ![2, 64]⟩
abbrev S2 : Shape := ⟨1, ![2]⟩
abbrev S2x1 : Shape := ⟨2, ![2, 1]⟩
abbrev S32 : Shape := ⟨1, ![32]⟩
abbrev S5x96 : Shape := ⟨2, ![5, 96]⟩
abbrev S1 : Shape := ⟨1, ![1]⟩
abbrev S24 : Shape := ⟨1, ![24]⟩
abbrev S8 : Shape := ⟨1, ![8]⟩
abbrev S96 : Shape := ⟨1, ![96]⟩
abbrev S1x96 : Shape := ⟨2, ![1, 96]⟩
abbrev S96x96 : Shape := ⟨2, ![96, 96]⟩
abbrev S64x96 : Shape := ⟨2, ![64, 96]⟩
abbrev S32x64 : Shape := ⟨2, ![32, 64]⟩
abbrev S96x128 : Shape := ⟨2, ![96, 128]⟩
abbrev S128 : Shape := ⟨1, ![128]⟩
abbrev S1x128 : Shape := ⟨2, ![1, 128]⟩
abbrev S16384x50x128 : Shape := ⟨3, ![16384, 50, 128]⟩
abbrev S1x5x25600 : Shape := ⟨3, ![1, 5, 25600]⟩
abbrev S512x50x128 : Shape := ⟨3, ![512, 50, 128]⟩
abbrev S5x25600 : Shape := ⟨2, ![5, 25600]⟩
abbrev S25600x5 : Shape := ⟨2, ![25600, 5]⟩
abbrev S25600x96 : Shape := ⟨2, ![25600, 96]⟩
abbrev S32x128 : Shape := ⟨2, ![32, 128]⟩
abbrev S64x128 : Shape := ⟨2, ![64, 128]⟩
abbrev S25600x128 : Shape := ⟨2, ![25600, 128]⟩

abbrev nBuf : Space → Nat
  | .hbm => 137
  | .vmem => 11
  | .smem => 0
  | _ => 0

abbrev hbmTy0_0 (i : Nat) : BufTy := match i % 128 with
  | 0 => ⟨S16384x50, .i32⟩
  | 1 => ⟨S16384x50, .i32⟩
  | 2 => ⟨S16384x50x2, .f32⟩
  | 3 => ⟨S24x32, .f32⟩
  | 4 => ⟨S7x32, .f32⟩
  | 5 => ⟨S64x2, .f32⟩
  | 6 => ⟨S64, .f32⟩
  | 7 => ⟨S64, .f32⟩
  | 8 => ⟨S64, .f32⟩
  | 9 => ⟨S64x64, .f32⟩
  | 10 => ⟨S64, .f32⟩
  | 11 => ⟨S32x25600x2, .f32⟩
  | 12 => ⟨S16384x50, .f32⟩
  | 13 => ⟨S32x1x25600, .f32⟩
  | 14 => ⟨S16384x50, .f32⟩
  | 15 => ⟨S32x1x25600, .f32⟩
  | 16 => ⟨S32x2x25600, .f32⟩
  | 17 => ⟨S_, .f32⟩
  | 18 => ⟨S32x1x25600, .f32⟩
  | 19 => ⟨S32x5x25600, .f32⟩
  | 20 => ⟨S2x64, .f32⟩
  | 21 => ⟨S_, .f32⟩
  | 22 => ⟨S2, .f32⟩
  | 23 => ⟨S2x1, .f32⟩
  | 24 => ⟨S_, .f32⟩
  | 25 => ⟨S2x1, .f32⟩
  | 26 => ⟨S2x1, .f32⟩
  | 27 => ⟨S2x64, .f32⟩
  | 28 => ⟨S2x64, .f32⟩
  | 29 => ⟨S_, .f32⟩
  | 30 => ⟨S_, .f32⟩
  | 31 => ⟨S_, .f32⟩
  | 32 => ⟨S_, .f32⟩
  | 33 => ⟨S64, .f32⟩
  | 34 => ⟨S64, .f32⟩
  | 35 => ⟨S32, .i32⟩
  | 36 => ⟨S_, .i32⟩
  | 37 => ⟨S32, .i32⟩
  | 38 => ⟨S32, .i1⟩
  | 39 => ⟨S32, .i32⟩
  | 40 => ⟨S_, .i32⟩
  | 41 => ⟨S32, .i32⟩
  | 42 => ⟨S32, .i32⟩
  | 43 => ⟨S32, .i32⟩
  | 44 => ⟨S32, .i32⟩
  | 45 => ⟨S32, .f32⟩
  | 46 => ⟨S_, .f32⟩
  | 47 => ⟨S5x96, .f32⟩
  | 48 => ⟨S_, .i32⟩
  | 49 => ⟨S1, .i32⟩
  | 50 => ⟨S_, .i32⟩
  | 51 => ⟨S1, .i32⟩
  | 52 => ⟨S2, .i32⟩
  | 53 => ⟨S_, .f32⟩
  | 54 => ⟨S24, .f32⟩
  | 55 => ⟨S5x96, .f32⟩
  | 56 => ⟨S_, .i32⟩
  | 57 => ⟨S1, .i32⟩
  | 58 => ⟨S_, .i32⟩
  | 59 => ⟨S1, .i32⟩
  | 60 => ⟨S2, .i32⟩
  | 61 => ⟨S_, .f32⟩
  | 62 => ⟨S8, .f32⟩
  | 63 => ⟨S5x96, .f32⟩
  | 64 => ⟨S_, .i32⟩
  | 65 => ⟨S1, .i32⟩
  | 66 => ⟨S_, .i32⟩
  | 67 => ⟨S1, .i32⟩
  | 68 => ⟨S2, .i32⟩
  | 69 => ⟨S5x96, .f32⟩
  | 70 => ⟨S_, .i32⟩
  | 71 => ⟨S1, .i32⟩
  | 72 => ⟨S_, .i32⟩
  | 73 => ⟨S1, .i32⟩
  | 74 => ⟨S2, .i32⟩
  | 75 => ⟨S5x96, .f32⟩
  | 76 => ⟨S_, .i32⟩
  | 77 => ⟨S1, .i32⟩
  | 78 => ⟨S_, .i32⟩
  | 79 => ⟨S1, .i32⟩
  | 80 => ⟨S2, .i32⟩
  | 81 => ⟨S5x96, .f32⟩
  | 82 => ⟨S_, .f32⟩
  | 83 => ⟨S32, .f32⟩
  | 84 => ⟨S_, .f32⟩
  | 85 => ⟨S64, .f32⟩
  | 86 => ⟨S96, .f32⟩
  | 87 => ⟨S1x96, .f32⟩
  | 88 => ⟨S_, .f32⟩
  | 89 => ⟨S96x96, .f32⟩
  | 90 => ⟨S_, .i32⟩
  | 91 => ⟨S1, .i32⟩
  | 92 => ⟨S_, .f32⟩
  | 93 => ⟨S64x96, .f32⟩
  | 94 => ⟨S96x96, .f32⟩
  | 95 => ⟨S_, .f32⟩
  | 96 => ⟨S32, .f32⟩
  | 97 => ⟨S96, .f32⟩
  | 98 => ⟨S1x96, .f32⟩
  | 99 => ⟨S_, .f32⟩
  | 100 => ⟨S32, .f32⟩
  | 101 => ⟨S96, .f32⟩
  | 102 => ⟨S1x96, .f32⟩
  | 103 => ⟨S_, .f32⟩
  | 104 => ⟨S32x64, .f32⟩
  | 105 => ⟨S_, .i32⟩
  | 106 => ⟨S1, .i32⟩
  | 107 => ⟨S_, .i32⟩
  | 108 => ⟨S1, .i32⟩
  | 109 => ⟨S2, .i32⟩
  | 110 => ⟨S32x64, .f32⟩
  | 111 => ⟨S_, .i32⟩
  | 112 => ⟨S1, .i32⟩
  | 113 => ⟨S_, .i32⟩
  | 114 => ⟨S1, .i32⟩
  | 115 => ⟨S2, .i32⟩
  | 116 => ⟨S32x64, .f32⟩
  | 117 => ⟨S_, .f32⟩
  | 118 => ⟨S96x128, .f32⟩
  | 119 => ⟨S_, .i32⟩
  | 120 => ⟨S1, .i32⟩
  | 121 => ⟨S_, .i32⟩
  | 122 => ⟨S1, .i32⟩
  | 123 => ⟨S2, .i32⟩
  | 124 => ⟨S96x128, .f32⟩
  | 125 => ⟨S64x64, .f32⟩
  | 126 => ⟨S_, .i32⟩
  | 127 => ⟨S1, .i32⟩
  | _ => ⟨S16384x50, .i32⟩

abbrev hbmTy0_1 (i : Nat) : BufTy := match i % 128 with
  | 0 => ⟨S_, .i32⟩
  | 1 => ⟨S1, .i32⟩
  | 2 => ⟨S2, .i32⟩
  | 3 => ⟨S96x128, .f32⟩
  | 4 => ⟨S_, .f32⟩
  | 5 => ⟨S64, .f32⟩
  | 6 => ⟨S128, .f32⟩
  | 7 => ⟨S1x128, .f32⟩
  | 8 => ⟨S16384x50x128, .f32⟩
  | _ => ⟨S16384x50, .i32⟩

abbrev hbmTy (i : Nat) : BufTy := match i / 128 with
  | 0 => hbmTy0_0 i
  | 1 => hbmTy0_1 i
  | _ => ⟨S16384x50, .i32⟩

abbrev bufTy : (tb : Table) → Fin (tcTables nBuf tb) → BufTy
  | .hbm, ⟨i, _⟩ => hbmTy i
  | .local _ .vmem, ⟨0, _⟩ => ⟨S1x5x25600, .f32⟩
  | .local _ .vmem, ⟨1, _⟩ => ⟨S1x5x25600, .f32⟩
  | .local _ .vmem, ⟨2, _⟩ => ⟨S5x96, .f32⟩
  | .local _ .vmem, ⟨3, _⟩ => ⟨S1x96, .f32⟩
  | .local _ .vmem, ⟨4, _⟩ => ⟨S96x96, .f32⟩
  | .local _ .vmem, ⟨5, _⟩ => ⟨S1x96, .f32⟩
  | .local _ .vmem, ⟨6, _⟩ => ⟨S1x96, .f32⟩
  | .local _ .vmem, ⟨7, _⟩ => ⟨S96x128, .f32⟩
  | .local _ .vmem, ⟨8, _⟩ => ⟨S1x128, .f32⟩
  | .local _ .vmem, ⟨9, _⟩ => ⟨S512x50x128, .f32⟩
  | .local _ .vmem, ⟨10, _⟩ => ⟨S512x50x128, .f32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_c_12 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_14 : Ref sig .tc := ⟨.hbm, 70, rfl⟩
abbrev main_v43 : Ref sig .tc := ⟨.hbm, 71, rfl⟩
abbrev main_c_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_16 : Ref sig .tc := ⟨.hbm, 76, rfl⟩
abbrev main_v47 : Ref sig .tc := ⟨.hbm, 77, rfl⟩
abbrev main_c_17 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_18 : Ref sig .tc := ⟨.hbm, 82, rfl⟩
abbrev main_v51 : Ref sig .tc := ⟨.hbm, 83, rfl⟩
abbrev main_cst_19 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_20 : Ref sig .tc := ⟨.hbm, 88, rfl⟩
abbrev main_v55 : Ref sig .tc := ⟨.hbm, 89, rfl⟩
abbrev main_c_21 : Ref sig .tc := ⟨.hbm, 90, rfl⟩
abbrev main_v56 : Ref sig .tc := ⟨.hbm, 91, rfl⟩
abbrev main_cst_22 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_25 : Ref sig .tc := ⟨.hbm, 103, rfl⟩
abbrev main_v65 : Ref sig .tc := ⟨.hbm, 104, rfl⟩
abbrev main_c_26 : Ref sig .tc := ⟨.hbm, 105, rfl⟩
abbrev main_v66 : Ref sig .tc := ⟨.hbm, 106, rfl⟩
abbrev main_c_27 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_28 : Ref sig .tc := ⟨.hbm, 111, rfl⟩
abbrev main_v70 : Ref sig .tc := ⟨.hbm, 112, rfl⟩
abbrev main_c_29 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_30 : Ref sig .tc := ⟨.hbm, 117, rfl⟩
abbrev main_v74 : Ref sig .tc := ⟨.hbm, 118, rfl⟩
abbrev main_c_31 : Ref sig .tc := ⟨.hbm, 119, rfl⟩
abbrev main_v75 : Ref sig .tc := ⟨.hbm, 120, rfl⟩
abbrev main_c_32 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_33 : Ref sig .tc := ⟨.hbm, 126, rfl⟩
abbrev main_v80 : Ref sig .tc := ⟨.hbm, 127, rfl⟩
abbrev main_c_34 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_35 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x50x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S16384x50 : Shape := ⟨2, ![16384, 50]⟩
abbrev S16384x50x2 : Shape := ⟨3, ![16384, 50, 2]⟩
abbrev S24x32 : Shape := ⟨2, ![24, 32]⟩
abbrev S7x32 : Shape := ⟨2, ![7, 32]⟩
abbrev S64x2 : Shape := ⟨2, ![64, 2]⟩
abbrev S64 : Shape := ⟨1, ![64]⟩
abbrev S64x64 : Shape := ⟨2, ![64, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x32 : Shape := ⟨3, ![16384, 50, 32]⟩
abbrev S2x64 : Shape := ⟨2, ![2, 64]⟩
abbrev S16384x50x64 : Shape := ⟨3, ![16384, 50, 64]⟩
abbrev S1x1x64 : Shape := ⟨3, ![1, 1, 64]⟩
abbrev S16384x50x128 : Shape := ⟨3, ![16384, 50, 128]⟩

abbrev nBuf : Space → Nat
  | .hbm => 109
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384x50x2, .f32⟩
  | .hbm, ⟨3, _⟩ => ⟨S24x32, .f32⟩
  | .hbm, ⟨4, _⟩ => ⟨S7x32, .f32⟩
  | .hbm, ⟨5, _⟩ => ⟨S64x2, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S16384x50, .i32⟩
  | .hbm, ⟨13, _⟩ => ⟨S16384x50, .i1⟩
  | .hbm, ⟨14, _⟩ => ⟨S_, .i32⟩
  | .hbm, ⟨15, _⟩ => ⟨S16384x50, .i32⟩
  | .hbm, ⟨16, _⟩ => ⟨S16384x50, .i32⟩
  | .hbm, ⟨17, _⟩ => ⟨S16384x50, .i32⟩
  | .hbm, ⟨18, _⟩ => ⟨S16384x50x1, .i32⟩
  | .hbm, ⟨19, _⟩ => ⟨S1, .i32⟩
  | .hbm, ⟨20, _⟩ => ⟨S_, .i32⟩
  | .hbm, ⟨21, _⟩ => ⟨S16384x50x1, .i32⟩
  | .hbm, ⟨22, _⟩ => ⟨S16384x50x1, .i1⟩
  | .hbm, ⟨23, _⟩ => ⟨S1x1x1, .i32⟩
  | .hbm, ⟨24, _⟩ => ⟨S16384x50x1, .i32⟩
  | .hbm, ⟨25, _⟩ => ⟨S16384x50x1, .i1⟩
  | .hbm, ⟨26, _⟩ => ⟨S16384x50x1, .i1⟩
  | .hbm, ⟨27, _⟩ => ⟨S_, .i1⟩
  | .hbm, ⟨28, _⟩ => ⟨S16384x50, .i1⟩
  | .hbm, ⟨29, _⟩ => ⟨S16384x50x32, .f32⟩
  | .hbm, ⟨30, _⟩ => ⟨S16384x50x32, .i1⟩
  | .hbm, ⟨31, _⟩ => ⟨S_, .f32⟩
  | .hbm, ⟨32, _⟩ => ⟨S16384x50x32, .f32⟩
  | .hbm, ⟨33, _⟩ => ⟨S16384x50x32, .f32⟩
  | .hbm, ⟨34, _⟩ => ⟨S_, .i32⟩
  | .hbm, ⟨35, _⟩ => ⟨S16384x50, .i32⟩
  | .hbm, ⟨36, _⟩ => ⟨S16384x50, .i1⟩
  | .hbm, ⟨37, _⟩ => ⟨S_, .i32⟩
  | .hbm, ⟨38, _⟩ => ⟨S16384x50, .i32⟩
  | .hbm, ⟨39, _⟩ => ⟨S16384x50, .i32⟩
  | .hbm, ⟨40, _⟩ => ⟨S16384x50, .i32⟩
  | .hbm, ⟨41, _⟩ => ⟨S16384x50x1, .i32⟩
  | .hbm, ⟨42, _⟩ => ⟨S1, .i32⟩
  | .hbm, ⟨43, _⟩ => ⟨S_, .i32⟩
  | .hbm, ⟨44, _⟩ => ⟨S16384x50x1, .i32⟩
  | .hbm, ⟨45, _⟩ => ⟨S16384x50x1, .i1⟩
  | .hbm, ⟨46, _⟩ => ⟨S1x1x1, .i32⟩
  | .hbm, ⟨47, _⟩ => ⟨S16384x50x1, .i32⟩
  | .hbm, ⟨48, _⟩ => ⟨S16384x50x1, .i1⟩
  | .hbm, ⟨49, _⟩ => ⟨S16384x50x1, .i1⟩
  | .hbm, ⟨50, _⟩ => ⟨S_, .i1⟩
  | .hbm, ⟨51, _⟩ => ⟨S16384x50, .i1⟩
  | .hbm, ⟨52, _⟩ => ⟨S16384x50x32, .f32⟩
  | .hbm, ⟨53, _⟩ => ⟨S16384x50x32, .i1⟩
  | .hbm, ⟨54, _⟩ => ⟨S_, .f32⟩
  | .hbm, ⟨55, _⟩ => ⟨S16384x50x32, .f32⟩
  | .hbm, ⟨56, _⟩ => ⟨S16384x50x32, .f32⟩
  | .hbm, ⟨57, _⟩ => ⟨S2x64, .f32⟩
  | .hbm, ⟨58, _⟩ => ⟨S16384x50x64, .f32⟩
  | .hbm, ⟨59, _⟩ => ⟨S1x1x64, .f32⟩
  | .hbm, ⟨60, _⟩ => ⟨S16384x50x64, .f32⟩
  | .hbm, ⟨61, _⟩ => ⟨S16384x50x64, .f32⟩
  | .hbm, ⟨62, _⟩ => ⟨S_, .f32⟩
  | .hbm, ⟨63, _⟩ => ⟨S16384x50, .f32⟩
  | .hbm, ⟨64, _⟩ => ⟨S16384x50x1, .f32⟩
  | .hbm, ⟨65, _⟩ => ⟨S_, .f32⟩
  | .hbm, ⟨66, _⟩ => ⟨S16384x50x1, .f32⟩
  | .hbm, ⟨67, _⟩ => ⟨S16384x50x1, .f32⟩
  | .hbm, ⟨68, _⟩ => ⟨S16384x50x64, .f32⟩
  | .hbm, ⟨69, _⟩ => ⟨S16384x50x64, .f32⟩
  | .hbm, ⟨70, _⟩ => ⟨S16384x50x64, .f32⟩
  | .hbm, ⟨71, _⟩ => ⟨S_, .f32⟩
  | .hbm, ⟨72, _⟩ => ⟨S16384x50, .f32⟩
  | .hbm, ⟨73, _⟩ => ⟨S16384x50x1, .f32⟩
  | .hbm, ⟨74, _⟩ => ⟨S_, .f32⟩
  | .hbm, ⟨75, _⟩ => ⟨S16384x50x1, .f32⟩
  | .hbm, ⟨76, _⟩ => ⟨S16384x50x1, .f32⟩
  | .hbm, ⟨77, _⟩ => ⟨S16384x50x64, .f32⟩
  | .hbm, ⟨78, _⟩ => ⟨S16384x50x64, .f32⟩
  | .hbm, ⟨79, _⟩ => ⟨S_, .f32⟩
  | .hbm, ⟨80, _⟩ => ⟨S16384x50x1, .f32⟩
  | .hbm, ⟨81, _⟩ => ⟨S16384x50x1, .f32⟩
  | .hbm, ⟨82, _⟩ => ⟨S16384x50x1, .f32⟩
  | .hbm, ⟨83, _⟩ => ⟨S16384x50x64, .f32⟩
  | .hbm, ⟨84, _⟩ => ⟨S16384x50x64, .f32⟩
  | .hbm, ⟨85, _⟩ => ⟨S1x1x64, .f32⟩
  | .hbm, ⟨86, _⟩ => ⟨S16384x50x64, .f32⟩
  | .hbm, ⟨87, _⟩ => ⟨S16384x50x64, .f32⟩
  | .hbm, ⟨88, _⟩ => ⟨S1x1x64, .f32⟩
  | .hbm, ⟨89, _⟩ => ⟨S16384x50x64, .f32⟩
  | .hbm, ⟨90, _⟩ => ⟨S16384x50x64, .f32⟩
  | .hbm, ⟨91, _⟩ => ⟨S_, .f32⟩
  | .hbm, ⟨92, _⟩ => ⟨S16384x50x64, .f32⟩
  | .hbm, ⟨93, _⟩ => ⟨S16384x50x64, .f32⟩
  | .hbm, ⟨94, _⟩ => ⟨S_, .f32⟩
  | .hbm, ⟨95, _⟩ => ⟨S_, .f32⟩
  | .hbm, ⟨96, _⟩ => ⟨S16384x50x64, .f32⟩
  | .hbm, ⟨97, _⟩ => ⟨S16384x50x64, .f32⟩
  | .hbm, ⟨98, _⟩ => ⟨S16384x50x64, .f32⟩
  | .hbm, ⟨99, _⟩ => ⟨S_, .f32⟩
  | .hbm, ⟨100, _⟩ => ⟨S16384x50x64, .f32⟩
  | .hbm, ⟨101, _⟩ => ⟨S16384x50x64, .f32⟩
  | .hbm, ⟨102, _⟩ => ⟨S16384x50x64, .f32⟩
  | .hbm, ⟨103, _⟩ => ⟨S64x64, .f32⟩
  | .hbm, ⟨104, _⟩ => ⟨S16384x50x64, .f32⟩
  | .hbm, ⟨105, _⟩ => ⟨S1x1x64, .f32⟩
  | .hbm, ⟨106, _⟩ => ⟨S16384x50x64, .f32⟩
  | .hbm, ⟨107, _⟩ => ⟨S16384x50x64, .f32⟩
  | .hbm, ⟨108, _⟩ => ⟨S16384x50x128, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_cst : Ref sig .tc := ⟨.hbm, 62, rfl⟩
abbrev main_v7 : Ref sig .tc := ⟨.hbm, 63, rfl⟩
abbrev main_v8 : Ref sig .tc := ⟨.hbm, 64, rfl⟩
abbrev main_cst_0 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_cst_1 : Ref sig .tc := ⟨.hbm, 71, rfl⟩
abbrev main_v14 : Ref sig .tc := ⟨.hbm, 72, rfl⟩
abbrev main_v15 : Ref sig .tc := ⟨.hbm, 73, rfl⟩
abbrev main_cst_2 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst_3 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_4 : Ref sig .tc := ⟨.hbm, 91, rfl⟩
abbrev main_v31 : Ref sig .tc := ⟨.hbm, 92, rfl⟩
abbrev main_v32 : Ref sig .tc := ⟨.hbm, 93, rfl⟩
abbrev main_cst_5 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_cst_6 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩

abbrev nD : Nat := 1
abbrev τ : Topo := Topo.v7x

variable {F : FTy → Type} [FloatOps F]
-- ==== Proof.Consts.lean ====
/-
  The number that each literal of the kernel and of the reference denotes at exact arithmetic, and the named constant.
-/
module

public import proofs.«01_k».proof.Proof.Gen.KernelIdeal.Value
public import Idealize.ShloMosaic.Lib.Pipeline.ValueKit

@[expose] public section

namespace Cert.Consts

open Idealize.ShloMosaic

/-- The literal of sixty-four. -/
theorem lit_64 : Ideal.ofBits .f32 0x42800000#32 = ((64 : ℝ) : EReal) := by
  simp [Ideal.ofBits, Ideal.ieee, -EReal.coe_mul]; norm_num

/-- The literal of one sixty-fourth. -/
theorem lit_inv64 : Ideal.ofBits .f32 0x3C800000#32 = ((1 / 64 : ℝ) : EReal) := by
  simp [Ideal.ofBits, Ideal.ieee, -EReal.coe_mul]; norm_num

/-- The literal of one half. -/
theorem lit_half : Ideal.ofBits .f32 0x3F000000#32 = ((1 / 2 : ℝ) : EReal) := by
  simp [Ideal.ofBits, Ideal.ieee, -EReal.coe_mul]; norm_num

/-- The literal of two. -/
theorem lit_2 : Ideal.ofBits .f32 0x40000000#32 = ((2 : ℝ) : EReal) := by
  simp [Ideal.ofBits, Ideal.ieee, -EReal.coe_mul]; norm_num

/-- The literal of not-a-number denotes the least extended real. -/
theorem lit_nan : Ideal.ofBits .f32 0x7FC00000#32 = (⊥ : EReal) := by
  simp [Ideal.ofBits, Ideal.ieee]

/-- The literal of infinity. -/
theorem lit_inf : Ideal.ofBits .f32 0x7F800000#32 = (⊤ : EReal) := by
  simp [Ideal.ofBits, Ideal.ieee]

/-- The small number added to the variance denotes a positive real. -/
theorem lit_eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-- The named constant denotes the reciprocal of the square root of two. -/
theorem named_s : Named.named (F := Ideal) (φ := .f32) Cert.KernelIdeal.κ "inv_sqrt2" 0x3F3504F3#32 = (((Real.sqrt 2)⁻¹ : ℝ) : EReal) :=
  IdealRules.named_const.ideal_named_scalar _ _ _ _ rfl

end Cert.Consts
-- ==== Proof.Inputs.lean ====
/-
  What the precondition says of each argument: every hour is a number below twenty-four, every weekday a number below seven, and
  every time feature, every first-layer weight and every first-layer bias is a real number.
-/
module

public import proofs.«01_k».proof.Proof.Gen.Pre_inputs_ok
public import proofs.«01_k».proof.Proof.Consts
public import Idealize.ShloMosaic.Lib.Pipeline.ValueKit
public import Idealize.ShloMosaic.Lib.WordArith

@[expose] public section
set_option maxRecDepth 16384

namespace Cert.Inputs

open Idealize.ShloMosaic Cert.Pre_inputs_ok

/-- One bit set to a decided proposition is one exactly when the proposition holds. -/
theorem bit_one (p : Prop) [Decidable p] : BitVec.ofBool (decide p) = 1#1 ↔ p := by
  by_cases h : p <;> simp [h]

/-- A word that is signed at least zero and signed below `n` is the word of a number below `n`. -/
theorem word_range (x : BitVec 32) (n : ℕ) (hn : n < 2 ^ 31)
    (h : IntOp.andi (IntOp.cmpi .sge x 0#32) (IntOp.cmpi .slt x (BitVec.ofNat 32 n)) = 1#1) :
    ∃ k : Fin n, x = BitVec.ofNat 32 k.val := by
  have h1 : IntOp.cmpi .sge x 0#32 = 1#1 ∧ IntOp.cmpi .slt x (BitVec.ofNat 32 n) = 1#1 := by
    revert h
    generalize IntOp.cmpi .sge x 0#32 = a
    generalize IntOp.cmpi .slt x (BitVec.ofNat 32 n) = b
    revert a b
    decide
  have hge : (0 : ℤ) ≤ x.toInt := by
    have := h1.1
    simp only [IntOp.cmpi, BitVec.sle, bit_one] at this
    simpa using this
  have hlt : x.toInt < (n : ℤ) := by
    have := h1.2
    simp only [IntOp.cmpi, BitVec.slt, bit_one] at this
    rwa [WordArith.toInt_ofNat_small _ hn] at this
  refine ⟨⟨x.toNat, ?_⟩, ?_⟩
  · rw [BitVec.toInt_eq_toNat_cond] at hge hlt
    split at hlt <;> omega
  · exact (BitVec.ofNat_toNat 32 x).symm ▸ (by simp)

/-- An extended real whose absolute value is below infinity is a real number. -/
theorem finite (x : EReal) (h : Ideal.cmp .olt (FloatOps.absf (F := Ideal) (φ := .f32) x) (Ideal.ofBits .f32 0x7F800000#32) = 1#1) :
    ∃ r : ℝ, x = (r : EReal) := by
  rw [Consts.lit_inf] at h
  have h' : max x (-x) < ⊤ := (bit_one _).1 h
  induction x with
  | bot => simp at h'
  | top => simp at h'
  | coe r => exact ⟨r, rfl⟩

variable (x0 x1 : IVec S16384x50 32) (x2 : FVec Ideal S16384x50x2 .f32) (x3 : FVec Ideal S24x32 .f32)
  (x4 : FVec Ideal S7x32 .f32) (x5 : FVec Ideal S64x2 .f32) (x6 x7 x8 : FVec Ideal S64 .f32) (x9 : FVec Ideal S64x64 .f32)
  (x10 : FVec Ideal S64 .f32)

theorem hour (H : (fn x0 x1 x2 x3 x4 x5 x6 x7 x8 x9 x10).1 = fun _ => 1#1) (b : Fin 16384) (l : Fin 50) :
    ∃ k : Fin 24, x0 (ix2 b l) = BitVec.ofNat 32 k.val := by
  have h := congrFun H (ix2 b l)
  refine word_range _ 24 (by norm_num) ?_
  pointwise [fn, fn_part1] at h
  exact h

theorem weekday (H : (fn x0 x1 x2 x3 x4 x5 x6 x7 x8 x9 x10).2.1 = fun _ => 1#1) (b : Fin 16384) (l : Fin 50) :
    ∃ k : Fin 7, x1 (ix2 b l) = BitVec.ofNat 32 k.val := by
  have h := congrFun H (ix2 b l)
  refine word_range _ 7 (by norm_num) ?_
  exact h

theorem features (H : (fn x0 x1 x2 x3 x4 x5 x6 x7 x8 x9 x10).2.2.1 = fun _ => 1#1) (b : Fin 16384) (l : Fin 50) (k : Fin 2) :
    ∃ r : ℝ, x2 (ix3 b l k) = (r : EReal) := finite _ (congrFun H (ix3 b l k))

theorem weights (H : (fn x0 x1 x2 x3 x4 x5 x6 x7 x8 x9 x10).2.2.2.1 = fun _ => 1#1) (d : Fin 64) (k : Fin 2) :
    ∃ r : ℝ, x5 (ix2 d k) = (r : EReal) := finite _ (congrFun H (ix2 d k))

theorem bias (H : (fn x0 x1 x2 x3 x4 x5 x6 x7 x8 x9 x10).2.2.2.2 = fun _ => 1#1) (d : Fin 64) :
    ∃ r : ℝ, x6 (ix1 d) = (r : EReal) := finite _ (congrFun H (ix1 d))

end Cert.Inputs
-- ==== Proof.Spec.lean ====
/-
  What one row of the result is, as numbers: the two table rows that its hour and its weekday pick, then the two-layer network
  of its two time features. Both programs are proved to compute this.
-/
module

public import Idealize.ShloMosaic.Lib.Pipeline.ValueKit

@[expose] public section

noncomputable section

namespace Cert.Spec

open Idealize.ShloMosaic

/-- The weights of the network: first layer, its bias, the learned scale and shift, second layer, its bias. -/
structure Net where
  w1 : Fin 64 → Fin 2 → EReal
  b1 : Fin 64 → EReal
  gamma : Fin 64 → EReal
  beta : Fin 64 → EReal
  w2 : Fin 64 → Fin 64 → EReal
  b2 : Fin 64 → EReal

variable (N : Net) (s : Fin 2 → EReal)

/-- The first layer. -/
def lin (d : Fin 64) : EReal := ∑ k : Fin 2, s k * N.w1 d k + N.b1 d

/-- The mean of the first layer. -/
def mean : EReal := Ideal.div (∑ d : Fin 64, lin N s d) ((64 : ℝ) : EReal)

/-- The variance of the first layer: the mean of the squared distances from the mean. -/
def var : EReal :=
  Ideal.div (∑ d : Fin 64, (lin N s d - mean N s) * (lin N s d - mean N s)) ((64 : ℝ) : EReal)

/-- The normalized first layer. -/
def norm (d : Fin 64) : EReal :=
  Ideal.div (lin N s d - mean N s) (Ideal.sqrt (var N s + Ideal.ofBits .f32 0x3727C5AC#32))

/-- The learned scale and shift applied. -/
def aff (d : Fin 64) : EReal := norm N s d * N.gamma d + N.beta d

/-- The Gaussian error linear unit, `t/2 * (1 + erf (t / √2))`. -/
def gelu (t : EReal) : EReal :=
  ((1 / 2 : ℝ) : EReal) * t * (1 + Ideal.erf (Ideal.div t ((Real.sqrt 2 : ℝ) : EReal)))

/-- The second layer. -/
def out (e : Fin 64) : EReal := ∑ d : Fin 64, gelu (aff N s d) * N.w2 e d + N.b2 e

/-- One row of the result: the hour's row of the hour table, the weekday's row of the weekday table, the network. -/
def row (hourT : Fin 24 → Fin 32 → EReal) (weekT : Fin 7 → Fin 32 → EReal) (h : Fin 24) (w : Fin 7) (k : Fin 128) : EReal :=
  if q : k.val < 32 then hourT h ⟨k.val, q⟩
  else if q' : k.val - 32 < 32 then weekT w ⟨k.val - 32, q'⟩
  else out N s ⟨k.val - 32 - 32, by omega⟩

end Cert.Spec
-- ==== Proof.RefValue.lean ====
/-
  The reference read at one entry of its result: it is the row of Spec.lean, from the arguments at that row.
-/
module

public import proofs.«01_k».proof.Proof.Gen.ReferenceIdeal.Run
public import proofs.«01_k».proof.Proof.Gen.ReferenceIdeal.Read
public import proofs.«01_k».proof.Proof.Spec
public import proofs.«01_k».proof.Proof.Consts
public import Idealize.ShloMosaic.Lib.Pipeline.ValueKit

@[expose] public section
set_option maxRecDepth 16384

noncomputable section

namespace Cert.RefValue

open Idealize.ShloMosaic Cert.ReferenceIdeal Cert.ReferenceIdeal.Gen Cert.ReferenceIdeal.Read

variable (x0 x1 : IVec S16384x50 32) (x2 : FVec Ideal S16384x50x2 .f32) (x3 : FVec Ideal S24x32 .f32)
  (x4 : FVec Ideal S7x32 .f32) (x5 : FVec Ideal S64x2 .f32) (x6 x7 x8 : FVec Ideal S64 .f32) (x9 : FVec Ideal S64x64 .f32)
  (x10 : FVec Ideal S64 .f32) (b : Fin 16384) (l : Fin 50)

/-- The network's weights, read from the argument arrays. -/
def net : Spec.Net where
  w1 d k := x5 (ix2 d k)
  b1 d := x6 (ix1 d)
  gamma d := x7 (ix1 d)
  beta d := x8 (ix1 d)
  w2 e d := x9 (ix2 e d)
  b2 e := x10 (ix1 e)

/-- The two time features of row `(b, l)`. -/
def feat (k : Fin 2) : EReal := x2 (ix3 b l k)

/-- The index that the first lookup uses is the hour, where the hour is in range. -/
theorem hourIndex (h : Fin 24) (hh : x0 (ix2 b l) = BitVec.ofNat 32 h.val) (z : Fin 1) :
    val_main_call0_v5 (F := Ideal) x0 (ix3 b l z) = BitVec.ofNat 32 h.val := by
  pointwise [val_main_call0_v5, val_main_call0_v4, val_main_call0_v3, val_main_call0_v2, val_main_call0_v1, val_main_call0_v0,
    val_main_call0_c, val_main_call0_c_0]
  rw [hh]
  clear hh
  revert h
  decide

/-- The first lookup's bounds check passes, where the hour is in range. -/
theorem hourInside (h : Fin 24) (hh : x0 (ix2 b l) = BitVec.ofNat 32 h.val) (d : Fin 32) :
    val_main_call0_v14 (F := Ideal) x0 (ix3 b l d) = 1#1 := by
  have e : val_main_call0_v12 (F := Ideal) x0 (ix2 b l) = 1#1 := by
    pointwise [val_main_call0_v12]
    have e : (fun z : Fin 1 => val_main_call0_v11 (F := Ideal) x0 (ix3 b l z)) = fun _ => 1#1 := by
      funext z
      pointwise [val_main_call0_v11, val_main_call0_v10, val_main_call0_v9, val_main_call0_v8, val_main_call0_v7,
        val_main_call0_v6, val_main_call0_c_1, val_main_call0_c_2]
      rw [hourIndex x0 b l h hh]
      clear hh
      revert h
      decide
    rw [e]
    rfl
  pointwise [val_main_call0_v14]
  exact e

/-- The first lookup at `(b, l)` is the hour's row of its table. -/
theorem hourRow (h : Fin 24) (hh : x0 (ix2 b l) = BitVec.ofNat 32 h.val) (d : Fin 32) :
    val_main_v0 (F := Ideal) x0 x3 (ix3 b l d) = x3 (ix2 h d) := by
  pointwise [val_main_v0]
  rw [hourInside x0 b l h hh]
  show val_main_call0_v13 (F := Ideal) x0 x3 (ix3 b l d) = x3 (ix2 h d)
  unfold val_main_call0_v13
  have hv := hourIndex x0 b l h hh 0
  refine congrArg x3 (funext fun a => Fin.ext ?_)
  match a with
  | ⟨0, _⟩ =>
    have : ∀ i, i = ix3 b l (0:Fin 1) → min (val_main_call0_v5 (F := Ideal) x0 i).toInt.toNat 23 + 0 + 0 = h.val := by
      rintro i rfl
      rw [hv]
      clear hv hh
      revert h
      decide
    refine this _ (funext fun a => Fin.ext ?_)
    match a with
    | ⟨0, _⟩ => rfl
    | ⟨1, _⟩ => rfl
    | ⟨2, _⟩ => rfl
  | ⟨1, _⟩ =>
    show 0 + 0 + d.val = d.val
    omega

/-- The index that the second lookup uses is the weekday, where the weekday is in range. -/
theorem weekIndex (w : Fin 7) (hh : x1 (ix2 b l) = BitVec.ofNat 32 w.val) (z : Fin 1) :
    val_main_call1_v5 (F := Ideal) x1 (ix3 b l z) = BitVec.ofNat 32 w.val := by
  pointwise [val_main_call1_v5, val_main_call1_v4, val_main_call1_v3, val_main_call1_v2, val_main_call1_v1, val_main_call1_v0,
    val_main_call1_c, val_main_call1_c_0]
  rw [hh]
  clear hh
  revert w
  decide

/-- The second lookup's bounds check passes, where the weekday is in range. -/
theorem weekInside (w : Fin 7) (hh : x1 (ix2 b l) = BitVec.ofNat 32 w.val) (d : Fin 32) :
    val_main_call1_v14 (F := Ideal) x1 (ix3 b l d) = 1#1 := by
  have e : val_main_call1_v12 (F := Ideal) x1 (ix2 b l) = 1#1 := by
    pointwise [val_main_call1_v12]
    have e : (fun z : Fin 1 => val_main_call1_v11 (F := Ideal) x1 (ix3 b l z)) = fun _ => 1#1 := by
      funext z
      pointwise [val_main_call1_v11, val_main_call1_v10, val_main_call1_v9, val_main_call1_v8, val_main_call1_v7,
        val_main_call1_v6, val_main_call1_c_1, val_main_call1_c_2]
      rw [weekIndex x1 b l w hh]
      clear hh
      revert w
      decide
    rw [e]
    rfl
  pointwise [val_main_call1_v14]
  exact e

/-- The second lookup at `(b, l)` is the weekday's row of its table. -/
theorem weekRow (w : Fin 7) (hh : x1 (ix2 b l) = BitVec.ofNat 32 w.val) (d : Fin 32) :
    val_main_v1 (F := Ideal) x1 x4 (ix3 b l d) = x4 (ix2 w d) := by
  pointwise [val_main_v1]
  rw [weekInside x1 b l w hh]
  show val_main_call1_v13 (F := Ideal) x1 x4 (ix3 b l d) = x4 (ix2 w d)
  unfold val_main_call1_v13
  have hv := weekIndex x1 b l w hh 0
  refine congrArg x4 (funext fun a => Fin.ext ?_)
  match a with
  | ⟨0, _⟩ =>
    have : ∀ i, i = ix3 b l (0:Fin 1) → min (val_main_call1_v5 (F := Ideal) x1 i).toInt.toNat 6 + 0 + 0 = w.val := by
      rintro i rfl
      rw [hv]
      clear hv hh
      revert w
      decide
    refine this _ (funext fun a => Fin.ext ?_)
    match a with
    | ⟨0, _⟩ => rfl
    | ⟨1, _⟩ => rfl
    | ⟨2, _⟩ => rfl
  | ⟨1, _⟩ =>
    show 0 + 0 + d.val = d.val
    omega

/-- The first layer. -/
theorem lin_eq (d : Fin 64) :
    val_main_v6 (F := Ideal) x2 x5 x6 (ix3 b l d) = Spec.lin (net x5 x6 x7 x8 x9 x10) (feat x2 b l) d := by
  pointwise [val_main_v6, val_main_v5, val_main_v4, val_main_v3, val_main_v2]
  rfl

/-- Its mean. -/
theorem mean_eq (z : Fin 1) :
    val_main_v10 (F := Ideal) x2 x5 x6 (ix3 b l z) = Spec.mean (net x5 x6 x7 x8 x9 x10) (feat x2 b l) := by
  pointwise [val_main_v10, val_main_v9, val_main_v8, val_main_v7, val_main_cst, val_main_cst_0]
  simp only [lin_eq x2 x5 x6 x7 x8 x9 x10 b l, Consts.lit_64]
  rfl

/-- Its variance. -/
theorem var_eq (z : Fin 1) :
    val_main_v17 (F := Ideal) x2 x5 x6 (ix3 b l z) = Spec.var (net x5 x6 x7 x8 x9 x10) (feat x2 b l) := by
  pointwise [val_main_v17, val_main_v16, val_main_v15, val_main_v14, val_main_v13, val_main_v12, val_main_v11,
    val_main_cst_1, val_main_cst_2]
  simp only [lin_eq x2 x5 x6 x7 x8 x9 x10 b l, mean_eq x2 x5 x6 x7 x8 x9 x10 b l, Consts.lit_64]
  rfl

/-- The normalized first layer. -/
theorem norm_eq (d : Fin 64) :
    val_main_v24 (F := Ideal) x2 x5 x6 (ix3 b l d) = Spec.norm (net x5 x6 x7 x8 x9 x10) (feat x2 b l) d := by
  pointwise [val_main_v24, val_main_v23, val_main_v22, val_main_v21, val_main_v20, val_main_v19, val_main_v18,
    val_main_cst_3]
  simp only [lin_eq x2 x5 x6 x7 x8 x9 x10 b l, mean_eq x2 x5 x6 x7 x8 x9 x10 b l, var_eq x2 x5 x6 x7 x8 x9 x10 b l]
  rfl

/-- The learned scale and shift. -/
theorem aff_eq (d : Fin 64) :
    val_main_v30 (F := Ideal) x2 x5 x6 x7 x8 (ix3 b l d) = Spec.aff (net x5 x6 x7 x8 x9 x10) (feat x2 b l) d := by
  pointwise [val_main_v30, val_main_v29, val_main_v28, val_main_v27, val_main_v26, val_main_v25]
  simp only [norm_eq x2 x5 x6 x7 x8 x9 x10 b l]
  rfl

/-- The Gaussian error linear unit. -/
theorem gelu_eq (d : Fin 64) :
    val_main_v39 (F := Ideal) x2 x5 x6 x7 x8 (ix3 b l d)
      = Spec.gelu (Spec.aff (net x5 x6 x7 x8 x9 x10) (feat x2 b l) d) := by
  pointwise [val_main_v39, val_main_v38, val_main_v37, val_main_v36, val_main_v35, val_main_v34, val_main_v33, val_main_v32,
    val_main_v31, val_main_cst_4, val_main_cst_5, val_main_cst_6]
  simp only [aff_eq x2 x5 x6 x7 x8 x9 x10 b l, Consts.lit_half, Consts.lit_2, Ideal.sqrt_coe]
  rw [if_neg (by norm_num)]
  rfl

/-- The second layer. -/
theorem out_eq (e : Fin 64) :
    val_main_v44 (F := Ideal) x2 x5 x6 x7 x8 x9 x10 (ix3 b l e)
      = Spec.out (net x5 x6 x7 x8 x9 x10) (feat x2 b l) e := by
  pointwise [val_main_v44, val_main_v43, val_main_v42, val_main_v41, val_main_v40]
  simp only [gelu_eq x2 x5 x6 x7 x8 x9 x10 b l]
  rfl

/-- The reference's result at `(b, l, k)`: the row of Spec.lean, where hour and weekday are in range. -/
theorem result_eq (h : Fin 24) (w : Fin 7) (hh : x0 (ix2 b l) = BitVec.ofNat 32 h.val)
    (hw : x1 (ix2 b l) = BitVec.ofNat 32 w.val) (k : Fin 128) :
    val_main_v45 (F := Ideal) x0 x1 x2 x3 x4 x5 x6 x7 x8 x9 x10 (ix3 b l k)
      = Spec.row (net x5 x6 x7 x8 x9 x10) (feat x2 b l) (fun i d => x3 (ix2 i d)) (fun i d => x4 (ix2 i d)) h w k := by
  pointwise [val_main_v45]
  unfold Spec.row
  refine dite_congr rfl (fun q => ?_) (fun q => ?_)
  · exact hourRow x0 x3 b l h hh _
  · refine dite_congr rfl (fun q' => ?_) (fun q' => ?_)
    · exact weekRow x1 x4 b l w hw _
    · exact out_eq x2 x5 x6 x7 x8 x9 x10 b l _

end Cert.RefValue
-- ==== Proof.Centred.lean ====
/-
  The first layer over the real numbers: with real features, weights and biases, the distance of each output from the mean is the
  layer of the weights and biases whose own means were taken off first, and the variance is a nonnegative real number.
-/
module

public import proofs.«01_k».proof.Proof.Spec
public import proofs.«01_k».proof.Proof.Consts

@[expose] public section

noncomputable section

namespace Cert.Centred

open Idealize.ShloMosaic

/-- A sum of real numbers is the real number that their sum is. -/
theorem sum_real {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The mean of sixty-four real numbers. -/
theorem mean_real (f : Fin 64 → ℝ) :
    Ideal.div (∑ d, ((f d : ℝ) : EReal)) ((64 : ℝ) : EReal) = (((∑ d, f d) * (1 / 64) : ℝ) : EReal) := by
  rw [Ideal.div_coe (by norm_num), sum_real, ← EReal.coe_mul]

variable (N : Spec.Net) (s : Fin 2 → EReal)
  (hs : ∀ k, ∃ r : ℝ, s k = (r : EReal)) (hw : ∀ d k, ∃ r : ℝ, N.w1 d k = (r : EReal)) (hb : ∀ d, ∃ r : ℝ, N.b1 d = (r : EReal))

include hs hw hb in
/-- Taking the mean off the weights and biases takes the mean off the layer. -/
theorem centre (d : Fin 64) :
    s 0 * (N.w1 d 0 - Ideal.div (∑ e, N.w1 e 0) ((64 : ℝ) : EReal))
        + s 1 * (N.w1 d 1 - Ideal.div (∑ e, N.w1 e 1) ((64 : ℝ) : EReal))
        + 1 * (N.b1 d - Ideal.div (∑ e, N.b1 e) ((64 : ℝ) : EReal))
      = Spec.lin N s d - Spec.mean N s := by
  choose S hS using hs
  choose W hW using hw
  choose B hB using hb
  have hl : ∀ e, Spec.lin N s e = ((S 0 * W e 0 + S 1 * W e 1 + B e : ℝ) : EReal) := fun e => by
    simp only [Spec.lin, Fin.sum_univ_two, hS, hW, hB, EReal.coe_add, EReal.coe_mul]
  simp only [Spec.mean, hl, hS, hW, hB, mean_real]
  rw [one_mul]
  simp only [← EReal.coe_sub, ← EReal.coe_mul, ← EReal.coe_add, EReal.coe_eq_coe_iff]
  simp only [Finset.sum_add_distrib, ← Finset.mul_sum]
  ring

include hs hw hb in
/-- The distance from the mean is a real number. -/
theorem centre_real (d : Fin 64) : ∃ r : ℝ, Spec.lin N s d - Spec.mean N s = (r : EReal) := by
  choose S hS using hs
  choose W hW using hw
  choose B hB using hb
  have hl : ∀ e, Spec.lin N s e = ((S 0 * W e 0 + S 1 * W e 1 + B e : ℝ) : EReal) := fun e => by
    simp only [Spec.lin, Fin.sum_univ_two, hS, hW, hB, EReal.coe_add, EReal.coe_mul]
  simp only [Spec.mean, hl, mean_real, ← EReal.coe_sub]
  exact ⟨_, rfl⟩

include hs hw hb in
/-- The variance is a real number, and not negative. -/
theorem var_real : ∃ v : ℝ, 0 ≤ v ∧ Spec.var N s = (v : EReal) := by
  choose C hC using centre_real N s hs hw hb
  simp only [Spec.var, hC, ← EReal.coe_mul, mean_real]
  exact ⟨_, mul_nonneg (Finset.sum_nonneg fun d _ => mul_self_nonneg _) (by norm_num), rfl⟩

include hs hw hb in
/-- Multiplying by the reciprocal square root is the division by the square root. -/
theorem norm_rsqrt (d : Fin 64) :
    (Spec.lin N s d - Spec.mean N s) * Ideal.rsqrt (Spec.var N s + Ideal.ofBits .f32 0x3727C5AC#32) = Spec.norm N s d := by
  obtain ⟨v, hv, ev⟩ := var_real N s hs hw hb
  obtain ⟨e, he, ee⟩ := Consts.lit_eps
  have hp : 0 < v + e := by linarith
  rw [Spec.norm, ev, ee, ← EReal.coe_add, Ideal.rsqrt_coe, Ideal.sqrt_coe, if_neg (by linarith), if_neg (by linarith),
    if_neg (by linarith), Ideal.div_coe (Real.sqrt_pos.2 hp).ne', one_div]

include hs hw hb in
/-- The normalized first layer is a real number. -/
theorem norm_real (d : Fin 64) : ∃ r : ℝ, Spec.norm N s d = (r : EReal) := by
  obtain ⟨v, hv, ev⟩ := var_real N s hs hw hb
  obtain ⟨e, he, ee⟩ := Consts.lit_eps
  obtain ⟨c, hc⟩ := centre_real N s hs hw hb d
  have hp : 0 < v + e := by linarith
  rw [Spec.norm, ev, ee, hc, ← EReal.coe_add, Ideal.sqrt_coe, if_neg (by linarith), Ideal.div_coe (Real.sqrt_pos.2 hp).ne',
    ← EReal.coe_mul]
  exact ⟨_, rfl⟩

/-- One over the square root of two, the number that both scalings of the kernel carry. -/
def isq : EReal := (((Real.sqrt 2)⁻¹ : ℝ) : EReal)

/-- A common nonnegative real factor comes out of a sum. -/
theorem add_mul_isq (x y : EReal) : (x + y) * isq = x * isq + y * isq :=
  EReal.right_distrib_of_nonneg_of_ne_top (by rw [isq]; exact_mod_cast inv_nonneg.2 (Real.sqrt_nonneg 2))
    (by rw [isq]; exact EReal.coe_ne_top _) _ _

/-- The square of one over the square root of two is one half. -/
theorem isq_mul_isq : isq * isq = ((1 / 2 : ℝ) : EReal) := by
  rw [isq, ← EReal.coe_mul, ← mul_inv, Real.mul_self_sqrt (by norm_num), one_div]

/-- The unit on a scaled argument, scaled once more, is the Gaussian error linear unit. -/
theorem gelu_isq (a : EReal) : a * isq * (1 + Ideal.erf (a * isq)) * isq = Spec.gelu a := by
  rw [Spec.gelu, Ideal.div_coe (Real.sqrt_pos.2 (by norm_num)).ne', ← isq_mul_isq, one_div]
  show a * isq * (1 + Ideal.erf (a * isq)) * isq = isq * isq * a * (1 + Ideal.erf (a * isq))
  ac_rfl

end Cert.Centred
-- ==== Proof.Row.lean ====
/-
  What the kernel computes of one row, over plain functions: the packed features times the feature matrix, the comparison that
  turns the first thirty-two columns into the two one-hot vectors, the network's hidden layer in the other sixty-four, and the
  one product with the stacked tables. With the matrices the host code builds, it is the row of Spec.lean.
-/
module

public import proofs.«01_k».proof.Proof.Centred

@[expose] public section

noncomputable section

namespace Cert.Row

open Idealize.ShloMosaic Cert.Centred

/-- Column `i` of the first thirty-two. -/
def lo (i : Fin 32) : Fin 96 := ⟨i.val, by omega⟩
/-- Column `d` of the last sixty-four. -/
def hi (d : Fin 64) : Fin 96 := ⟨32 + d.val, by omega⟩

variable (x : Fin 5 → EReal) (M : Fin 5 → Fin 96 → EReal) (z : Fin 96 → EReal) (A : Fin 96 → Fin 96 → EReal)
  (ga be : Fin 96 → EReal) (tb : Fin 96 → Fin 128 → EReal) (bi : Fin 128 → EReal)

/-- The features times the feature matrix. -/
def pre (j : Fin 96) : EReal := ∑ k : Fin 5, x k * M k j

/-- One where a column equals the number it is compared with, zero elsewhere. -/
def hit (j : Fin 96) : EReal :=
  FloatOps.sitofp (F := Ideal) .f32 (BitVec.setWidth 32 (BitVec.ofBool (decide (pre x M j = z j))))

/-- The argument of the unit: the column normalized, scaled and shifted. -/
def arg (j : Fin 96) : EReal :=
  pre x M j * Ideal.rsqrt (∑ i, pre x M i * pre x M i * A i j + Ideal.ofBits .f32 0x3727C5AC#32) * (ga j * isq) + be j * isq

/-- The unit, up to a factor. -/
def act (j : Fin 96) : EReal := arg x M A ga be j * (1 + Ideal.erf (arg x M A ga be j))

/-- One entry of the row. -/
def total (c : Fin 128) : EReal :=
  ∑ i : Fin 32, (hit x M z (lo i) + act x M A ga be (lo i)) * tb (lo i) c
    + ∑ d : Fin 64, (hit x M z (hi d) + act x M A ga be (hi d)) * (tb (hi d) c * isq) + bi c

/-- What the host code's matrices and one row's features are. -/
structure Holds (N : Spec.Net) (s : Fin 2 → EReal) (hourT : Fin 24 → Fin 32 → EReal) (weekT : Fin 7 → Fin 32 → EReal)
    (h : Fin 24) (w : Fin 7) : Prop where
  sReal : ∀ k, ∃ r : ℝ, s k = (r : EReal)
  wReal : ∀ d k, ∃ r : ℝ, N.w1 d k = (r : EReal)
  bReal : ∀ d, ∃ r : ℝ, N.b1 d = (r : EReal)
  feats : x = ![((h.val : ℝ) : EReal), ((w.val : ℝ) : EReal), s 0, s 1, 1]
  colHour : ∀ j : Fin 24, (fun k => M k (lo ⟨j.val, by omega⟩)) = ![1, 0, 0, 0, ((-(j.val : ℝ) : ℝ) : EReal)]
  colWeek : ∀ j : Fin 8, (fun k => M k (lo ⟨24 + j.val, by omega⟩)) = ![0, 1, 0, 0, ((-(j.val : ℝ) : ℝ) : EReal)]
  colLin : ∀ d : Fin 64, (fun k => M k (hi d))
    = ![0, 0, N.w1 d 0 - Ideal.div (∑ e, N.w1 e 0) ((64 : ℝ) : EReal), N.w1 d 1 - Ideal.div (∑ e, N.w1 e 1) ((64 : ℝ) : EReal),
        N.b1 d - Ideal.div (∑ e, N.b1 e) ((64 : ℝ) : EReal)]
  zLo : ∀ i, z (lo i) = 0
  zHi : ∀ d, z (hi d) = ⊥
  aLo : ∀ i j, A (lo i) j = 0
  aHi : ∀ d j, A (hi d) j = ((1 / 64 : ℝ) : EReal)
  gLo : ∀ i, ga (lo i) = 0
  gHi : ∀ d, ga (hi d) = N.gamma d
  eLo : ∀ i, be (lo i) = 0
  eHi : ∀ d, be (hi d) = N.beta d
  tHour : ∀ (j : Fin 24) (c : Fin 128), tb (lo ⟨j.val, by omega⟩) c = if q : c.val < 32 then hourT j ⟨c.val, q⟩ else 0
  tWeek : ∀ (j : Fin 7) (c : Fin 128), tb (lo ⟨24 + j.val, by omega⟩) c
    = if q : 32 ≤ c.val ∧ c.val - 32 < 32 then weekT j ⟨c.val - 32, q.2⟩ else 0
  tLast : ∀ c, tb (lo ⟨31, by omega⟩) c = 0
  tHi : ∀ d c, tb (hi d) c = if q : 64 ≤ c.val then N.w2 ⟨c.val - 64, by omega⟩ d else 0
  bias : ∀ c, bi c = if q : 64 ≤ c.val then N.b2 ⟨c.val - 64, by omega⟩ else 0

variable {x M z A ga be tb bi}
variable {N : Spec.Net} {s : Fin 2 → EReal} {hourT : Fin 24 → Fin 32 → EReal} {weekT : Fin 7 → Fin 32 → EReal}
    {h : Fin 24} {w : Fin 7} (H : Holds x M z A ga be tb bi N s hourT weekT h w)

/-- A column of the product, from the column of the matrix. -/
theorem pre_of {j : Fin 96} {v : Fin 5 → EReal} (e : (fun k => M k j) = v) : pre x M j = ∑ k : Fin 5, x k * v k :=
  Finset.sum_congr rfl fun k _ => by rw [← e]

/-- The comparison bit as a number. -/
theorem hit_of {j : Fin 96} (p : Prop) [Decidable p] (e : (pre x M j = z j) ↔ p) : hit x M z j = if p then 1 else 0 := by
  rw [hit, decide_eq_decide.2 e]
  by_cases q : p
  · rw [if_pos q, decide_eq_true q]
    show (((1 : ℤ) : ℝ) : EReal) = 1
    simp
  · rw [if_neg q, decide_eq_false q]
    show (((0 : ℤ) : ℝ) : EReal) = 0
    simp

include H

/-- Column `j` of the first twenty-four holds the hour minus `j`. -/
theorem pre_hour (j : Fin 24) : pre x M (lo ⟨j.val, by omega⟩) = (((h.val : ℝ) - (j.val : ℝ) : ℝ) : EReal) := by
  rw [pre_of (H.colHour j), H.feats, Fin.sum_univ_five]
  simp [sub_eq_add_neg, -EReal.coe_neg, EReal.coe_add]

/-- Column `j` of the next eight holds the weekday minus `j`. -/
theorem pre_week (j : Fin 8) : pre x M (lo ⟨24 + j.val, by omega⟩) = (((w.val : ℝ) - (j.val : ℝ) : ℝ) : EReal) := by
  rw [pre_of (H.colWeek j), H.feats, Fin.sum_univ_five]
  simp [sub_eq_add_neg, -EReal.coe_neg, EReal.coe_add]

/-- Column `d` of the last sixty-four holds the first layer's distance from its mean. -/
theorem pre_lin (d : Fin 64) : pre x M (hi d) = Spec.lin N s d - Spec.mean N s := by
  rw [← centre N s H.sReal H.wReal H.bReal d, pre_of (H.colLin d), H.feats, Fin.sum_univ_five]
  simp

/-- The comparison in the hour columns. -/
theorem hit_hour (j : Fin 24) : hit x M z (lo ⟨j.val, by omega⟩) = if j = h then 1 else 0 := by
  have e : (pre x M (lo ⟨j.val, by omega⟩) = z (lo ⟨j.val, by omega⟩)) ↔ j = h := by
    rw [pre_hour H, H.zLo, ← EReal.coe_zero, EReal.coe_eq_coe_iff, sub_eq_zero, Nat.cast_inj, Fin.ext_iff, eq_comm]
  exact hit_of _ e

/-- The comparison in the weekday columns. -/
theorem hit_week (j : Fin 7) : hit x M z (lo ⟨24 + j.val, by omega⟩) = if j = w then 1 else 0 := by
  have e : (pre x M (lo ⟨24 + j.val, by omega⟩) = z (lo ⟨24 + j.val, by omega⟩)) ↔ j = w := by
    rw [pre_week H ⟨j.val, by omega⟩, H.zLo, ← EReal.coe_zero, EReal.coe_eq_coe_iff, sub_eq_zero, Nat.cast_inj, Fin.ext_iff,
      eq_comm]
  exact hit_of _ e

/-- No column of the network compares equal. -/
theorem hit_lin (d : Fin 64) : hit x M z (hi d) = 0 := by
  obtain ⟨r, hr⟩ := centre_real N s H.sReal H.wReal H.bReal d
  have e : ¬ (pre x M (hi d) = z (hi d)) := by
    rw [pre_lin H, H.zHi, hr]
    exact EReal.coe_ne_bot r
  exact (hit_of False (iff_false_intro e)).trans (if_neg id)

/-- The unit is zero in the first thirty-two columns. -/
theorem act_lo (i : Fin 32) : act x M A ga be (lo i) = 0 := by
  rw [act, arg, H.gLo, H.eLo]
  simp

/-- The averaging product is the variance, in every column. -/
theorem average (j : Fin 96) : ∑ i, pre x M i * pre x M i * A i j = Spec.var N s := by
  have e : ∀ f : Fin 96 → EReal, ∑ i, f i = ∑ i, f (lo i) + ∑ d, f (hi d) := fun f => Fin.sum_univ_add (a := 32) (b := 64) f
  rw [e, Finset.sum_eq_zero fun i _ => by rw [H.aLo, mul_zero], zero_add]
  choose C hC using centre_real N s H.sReal H.wReal H.bReal
  rw [Spec.var, Ideal.div_coe (by norm_num)]
  simp only [pre_lin H, H.aHi, hC, ← EReal.coe_mul, sum_real, Finset.sum_mul]

/-- The argument of the unit in the network's columns. -/
theorem arg_hi (d : Fin 64) : arg x M A ga be (hi d) = Spec.aff N s d * isq := by
  rw [arg, average H, pre_lin H, norm_rsqrt N s H.sReal H.wReal H.bReal, H.gHi, H.eHi, Spec.aff, add_mul_isq, mul_assoc]

/-- The part of the product with the network's columns. -/
theorem hidden (d : Fin 64) (y : EReal) :
    (hit x M z (hi d) + act x M A ga be (hi d)) * (y * isq) = Spec.gelu (Spec.aff N s d) * y := by
  rw [hit_lin H, zero_add, act, arg_hi H, ← gelu_isq]
  ac_rfl

/-- The part of the product with the table columns: the two rows that the one-hot vectors pick. -/
theorem picked (c : Fin 128) :
    ∑ i : Fin 32, (hit x M z (lo i) + act x M A ga be (lo i)) * tb (lo i) c
      = tb (lo ⟨h.val, by omega⟩) c + tb (lo ⟨24 + w.val, by omega⟩) c := by
  have e : ∀ f : Fin 32 → EReal, ∑ i, f i
      = ∑ j : Fin 24, f ⟨j.val, by omega⟩ + (∑ j : Fin 7, f ⟨24 + j.val, by omega⟩ + f ⟨31, by omega⟩) := fun f => by
    rw [Fin.sum_univ_add (a := 24) (b := 8) f, Fin.sum_univ_castSucc (n := 7)]
    rfl
  rw [e]
  simp only [act_lo H, add_zero, hit_hour H, hit_week H, H.tLast, mul_zero, ite_mul, one_mul, zero_mul, Finset.sum_ite_eq',
    Finset.mem_univ, if_true]

/-- One row of the kernel is the row of Spec.lean. -/
theorem total_eq (c : Fin 128) : total x M z A ga be tb bi c = Spec.row N s hourT weekT h w c := by
  rw [total, picked H, H.tHour, H.tWeek, H.bias]
  simp only [hidden H, H.tHi]
  unfold Spec.row
  by_cases q : c.val < 32
  · simp only [dif_pos q, dif_neg (show ¬ (32 ≤ c.val ∧ c.val - 32 < 32) by omega), dif_neg (show ¬ 64 ≤ c.val by omega)]
    simp
  · by_cases q' : c.val - 32 < 32
    · simp only [dif_neg q, dif_pos q', dif_pos (show 32 ≤ c.val ∧ c.val - 32 < 32 by omega),
        dif_neg (show ¬ 64 ≤ c.val by omega)]
      simp
    · simp only [dif_neg q, dif_neg q', dif_neg (show ¬ (32 ≤ c.val ∧ c.val - 32 < 32) by omega),
        dif_pos (show 64 ≤ c.val by omega)]
      simp only [add_zero, zero_add]
      rfl

end Cert.Row
-- ==== Proof.Block.lean ====
/-
  The kernel's block written out at one entry: it is the row of Row.lean, from the blocks of the eight operands.
-/
module

public import proofs.«01_k».proof.Proof.Gen.KernelIdeal.Value
public import proofs.«01_k».proof.Proof.Row
public import Idealize.ShloMosaic.Lib.Pipeline.ValueKit

@[expose] public section
set_option maxRecDepth 16384

noncomputable section

namespace Cert.Block

open Idealize.ShloMosaic Cert.KernelIdeal Cert.KernelIdeal.Gen

variable (x0 : FVec Ideal S1x5x25600 .f32) (x1 : FVec Ideal S5x96 .f32) (x2 : FVec Ideal S1x96 .f32)
  (x3 : FVec Ideal S96x96 .f32) (x4 x5 : FVec Ideal S1x96 .f32) (x6 : FVec Ideal S96x128 .f32) (x7 : FVec Ideal S1x128 .f32)

/-- The product of a row's features with the feature matrix. -/
theorem pre_eq (r : Fin 25600) (j : Fin 96) :
    k0_pay2 (F := Ideal) x0 x1 (ix2 r j) = Row.pre (fun k => x0 (ix3 0 k r)) (fun k j => x1 (ix2 k j)) j := by
  pointwise [k0_pay2]
  rfl

/-- The comparison. -/
theorem hit_eq (r : Fin 25600) (j : Fin 96) :
    k0_pay3 (F := Ideal) x0 x1 x2 (ix2 r j)
      = Row.hit (fun k => x0 (ix3 0 k r)) (fun k j => x1 (ix2 k j)) (fun j => x2 (ix2 0 j)) j := by
  pointwise [k0_pay3]
  rw [pre_eq]
  rfl

/-- The unit. -/
theorem act_eq (r : Fin 25600) (j : Fin 96) :
    k0_pay4 (F := Ideal) x0 x1 x3 x4 x5 (ix2 r j)
      = Row.act (fun k => x0 (ix3 0 k r)) (fun k j => x1 (ix2 k j)) (fun i j => x3 (ix2 i j)) (fun j => x4 (ix2 0 j))
          (fun j => x5 (ix2 0 j)) j := by
  pointwise [k0_pay4]
  simp only [pre_eq, Consts.named_s]
  rfl

/-- One entry of the block. -/
theorem total_eq (b : Fin 512) (l : Fin 50) (c : Fin 128) :
    k0_pay1 (F := Ideal) (k0_pay3 x0 x1 x2) (k0_pay4 x0 x1 x3 x4 x5) (k0_pay5 (View.ld (Val := Elt Ideal) (e' := .f32) x6 r0_4)) (View.ld (Val := Elt Ideal) (e' := .f32) x6 r0_5) x7 (ix3 b l c)
      = Row.total (fun k => x0 (ix3 0 k ⟨b.val * 50 + l.val, by omega⟩)) (fun k j => x1 (ix2 k j)) (fun j => x2 (ix2 0 j))
          (fun i j => x3 (ix2 i j)) (fun j => x4 (ix2 0 j)) (fun j => x5 (ix2 0 j)) (fun j c => x6 (ix2 j c))
          (fun c => x7 (ix2 0 c)) c := by
  pointwise [k0_pay1]
  simp only [hit_eq, act_eq, Consts.named_s]
  pointwise [k0_pay5]
  rfl

end Cert.Block
-- ==== Proof.Place.lean ====
/-
  Arrays built on the host by writing a block into a larger array, `z.at[r : r + h, c : c + w].set(u)`, read at an entry:
  inside the written box the entry is the update's, outside it is the old array's. The same for a single written row and
  for a run of whole rows. These are facts about the scatter that such a write prints as; nothing here names the program.
-/
module

public import Idealize.ShloMosaic.Lib.Pipeline.ValueKit
public import Idealize.ShloMosaic.Lib.Routing.OpsSet

@[expose] public section

namespace Cert.Place

open Idealize.ShloMosaic

variable {α : Type} {R C w : ℕ} {si u : Shape}

/-- Update `k` lands at entry `(r, c)` of a matrix exactly when, on both axes, its start plus its place in the window is that
    coordinate. -/
theorem lands (d : ScatterDims ⟨2, ![R, C]⟩ si u) (idx : IVec si w) (s0 s1 : ℕ) (f0 f1 : u.Idx → ℕ)
    (hs0 : ∀ k, d.start k idx 0 = (s0 : ℤ)) (hs1 : ∀ k, d.start k idx 1 = (s1 : ℤ))
    (hf0 : ∀ k, d.window k 0 = f0 k) (hf1 : ∀ k, d.window k 1 = f1 k) (k : u.Idx) (r : Fin R) (c : Fin C) :
    d.resultIdx? k idx = some (ix2 r c) ↔ s0 + f0 k = r.val ∧ s1 + f1 k = c.val := by
  rw [Routing.resultIdx?_eq_some]
  constructor
  · intro h
    have h0 : d.start k idx 0 + (d.window k 0 : ℤ) = (r.val : ℤ) := h 0
    have h1 : d.start k idx 1 + (d.window k 1 : ℤ) = (c.val : ℤ) := h 1
    rw [hs0, hf0] at h0
    rw [hs1, hf1] at h1
    omega
  · rintro ⟨h0, h1⟩ a
    match a with
    | ⟨0, _⟩ =>
      show d.start k idx 0 + (d.window k 0 : ℤ) = (r.val : ℤ)
      rw [hs0, hf0]; omega
    | ⟨1, _⟩ =>
      show d.start k idx 1 + (d.window k 1 : ℤ) = (c.val : ℤ)
      rw [hs1, hf1]; omega

/-- A box `h × l` written at `(s0, s1)`: entries inside it are the update's, the others are as before. -/
theorem box {h l : ℕ} (d : ScatterDims ⟨2, ![R, C]⟩ si ⟨2, ![h, l]⟩) (x : (⟨2, ![R, C]⟩ : Shape).Idx → α) (idx : IVec si w)
    (upd : (⟨2, ![h, l]⟩ : Shape).Idx → α) (s0 s1 : ℕ)
    (hs0 : ∀ k, d.start k idx 0 = (s0 : ℤ)) (hs1 : ∀ k, d.start k idx 1 = (s1 : ℤ))
    (hf0 : ∀ k, d.window k 0 = (k 0).val) (hf1 : ∀ k, d.window k 1 = (k 1).val) (r : Fin R) (c : Fin C) :
    Host.scatter d (fun _ b => b) x idx upd (ix2 r c)
      = if q : (s0 ≤ r.val ∧ r.val - s0 < h) ∧ s1 ≤ c.val ∧ c.val - s1 < l
          then upd (ix2 ⟨r.val - s0, q.1.2⟩ ⟨c.val - s1, q.2.2⟩) else x (ix2 r c) := by
  have L := lands d idx s0 s1 (fun k => (k 0).val) (fun k => (k 1).val) hs0 hs1 hf0 hf1
  split
  · next q =>
    refine Routing.scatter_set_hit d x idx upd _ _ (fun k hk => ?_) (ix2 ⟨r.val - s0, q.1.2⟩ ⟨c.val - s1, q.2.2⟩)
      ((L _ r c).2 ⟨?_, ?_⟩)
    · have := (L k r c).1 hk
      refine congrArg upd (funext fun a => Fin.ext ?_)
      match a with
      | ⟨0, _⟩ => show (k 0).val = r.val - s0; omega
      | ⟨1, _⟩ => show (k 1).val = c.val - s1; omega
    · show s0 + (r.val - s0) = r.val; omega
    · show s1 + (c.val - s1) = c.val; omega
  · next q =>
    refine Routing.scatter_set_miss d x idx upd _ fun k hk => q ?_
    have := (L k r c).1 hk
    have k0 : (k 0).val < h := (k 0).isLt
    have k1 : (k 1).val < l := (k 1).isLt
    omega

/-- A piece of one row, of `l` entries, written at `(s0, s1)`: entries inside it are the update's, the others are as before. -/
theorem row {l : ℕ} (d : ScatterDims ⟨2, ![R, C]⟩ si ⟨1, ![l]⟩) (x : (⟨2, ![R, C]⟩ : Shape).Idx → α) (idx : IVec si w)
    (upd : (⟨1, ![l]⟩ : Shape).Idx → α) (s0 s1 : ℕ)
    (hs0 : ∀ k, d.start k idx 0 = (s0 : ℤ)) (hs1 : ∀ k, d.start k idx 1 = (s1 : ℤ))
    (hf0 : ∀ k, d.window k 0 = 0) (hf1 : ∀ k, d.window k 1 = (k 0).val) (r : Fin R) (c : Fin C) :
    Host.scatter d (fun _ b => b) x idx upd (ix2 r c)
      = if q : s0 = r.val ∧ s1 ≤ c.val ∧ c.val - s1 < l then upd (ix1 ⟨c.val - s1, q.2.2⟩) else x (ix2 r c) := by
  have L := lands d idx s0 s1 (fun _ => 0) (fun k => (k 0).val) hs0 hs1 hf0 hf1
  split
  · next q =>
    refine Routing.scatter_set_hit d x idx upd _ _ (fun k hk => ?_) (ix1 ⟨c.val - s1, q.2.2⟩) ((L _ r c).2 ⟨?_, ?_⟩)
    · have := (L k r c).1 hk
      refine congrArg upd (funext fun a => Fin.ext ?_)
      match a with
      | ⟨0, _⟩ => show (k 0).val = c.val - s1; omega
    · show s0 + 0 = r.val; omega
    · show s1 + (c.val - s1) = c.val; omega
  · next q =>
    refine Routing.scatter_set_miss d x idx upd _ fun k hk => q ?_
    have := (L k r c).1 hk
    have k0 : (k 0).val < l := (k 0).isLt
    omega

end Cert.Place
-- ==== Proof.Operands.lean ====
/-
  What the arrays that the kernel's region reads hold, entry by entry, in terms of the launch arguments: the features of every
  row, the matrix that takes a row's features to its ninety-six columns, the row that the columns are compared with, the
  matrix that averages squares, the two affine rows, the matrix of the last product and its bias row.
-/
module

public import proofs.«01_k».proof.Proof.Gen.KernelIdeal.Value
public import proofs.«01_k».proof.Proof.Place
public import proofs.«01_k».proof.Proof.Consts
public import Idealize.ShloMosaic.Lib.Pipeline.ValueKit
public import Idealize.ShloMosaic.Lib.StableHlo.ReadAt
public import Idealize.ShloMosaic.Lib.Claim

@[expose] public section
set_option maxRecDepth 16384
set_option maxHeartbeats 1000000

noncomputable section

namespace Cert.Operands

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The launch arguments, each under its own name. -/
def hourA : IVec S16384x50 32 := m ((c : Thread nD τ).loc main_arg0)
@[inherit_doc hourA] def weekA : IVec S16384x50 32 := m ((c : Thread nD τ).loc main_arg1)
@[inherit_doc hourA] def sincosA : FVec Ideal S16384x50x2 .f32 := m ((c : Thread nD τ).loc main_arg2)
@[inherit_doc hourA] def hourT : FVec Ideal S24x32 .f32 := m ((c : Thread nD τ).loc main_arg3)
@[inherit_doc hourA] def weekT : FVec Ideal S7x32 .f32 := m ((c : Thread nD τ).loc main_arg4)
@[inherit_doc hourA] def w1A : FVec Ideal S64x2 .f32 := m ((c : Thread nD τ).loc main_arg5)
@[inherit_doc hourA] def b1A : FVec Ideal S64 .f32 := m ((c : Thread nD τ).loc main_arg6)
@[inherit_doc hourA] def gammaA : FVec Ideal S64 .f32 := m ((c : Thread nD τ).loc main_arg7)
@[inherit_doc hourA] def betaA : FVec Ideal S64 .f32 := m ((c : Thread nD τ).loc main_arg8)
@[inherit_doc hourA] def w2A : FVec Ideal S64x64 .f32 := m ((c : Thread nD τ).loc main_arg9)
@[inherit_doc hourA] def b2A : FVec Ideal S64 .f32 := m ((c : Thread nD τ).loc main_arg10)

theorem read0 : m (c, Proc.tc.devRef main_arg0) = hourA m c := rfl
theorem read1 : m (c, Proc.tc.devRef main_arg1) = weekA m c := rfl
theorem read2 : m (c, Proc.tc.devRef main_arg2) = sincosA m c := rfl
theorem read3 : m (c, Proc.tc.devRef main_arg3) = hourT m c := rfl
theorem read4 : m (c, Proc.tc.devRef main_arg4) = weekT m c := rfl
theorem read5 : m (c, Proc.tc.devRef main_arg5) = w1A m c := rfl
theorem read6 : m (c, Proc.tc.devRef main_arg6) = b1A m c := rfl
theorem read7 : m (c, Proc.tc.devRef main_arg7) = gammaA m c := rfl
theorem read8 : m (c, Proc.tc.devRef main_arg8) = betaA m c := rfl
theorem read9 : m (c, Proc.tc.devRef main_arg9) = w2A m c := rfl
theorem read10 : m (c, Proc.tc.devRef main_arg10) = b2A m c := rfl

/-- The features of a row, in order: its hour and its weekday as numbers, its two time features, and one. -/
theorem features (t : Fin 32) (k : Fin 5) (r : Fin 25600) (b : Fin 16384) (l : Fin 50)
    (hb : b.val = t.val * 512 + r.val / 50) (hl : l.val = r.val % 50) :
    (V m c main_v7 : FVec Ideal S32x5x25600 .f32) (ix3 t k r)
      = (![FloatOps.sitofp (F := Ideal) .f32 (hourA m c (ix2 b l)), FloatOps.sitofp (F := Ideal) .f32 (weekA m c (ix2 b l)),
          sincosA m c (ix3 b l 0), sincosA m c (ix3 b l 1), 1] : Fin 5 → EReal) k := by
  unfold V
  after_reads_simp
  dsimp only [Matrix.cons_val]
  after_reads_simp
  clean_types
  pointwise
  have eb : ∀ h, (⟨t.val * 512 + r.val / 50, h⟩ : Fin 16384) = b := fun _ => Fin.ext hb.symm
  have el : ∀ h, (⟨r.val % 50, h⟩ : Fin 50) = l := fun _ => Fin.ext hl.symm
  simp only [eb, el, read0, read1, read2]
  fin_cases k <;> rfl

/-- The column means of the first layer's weights and of its bias. -/
def w1Mean (k : Fin 2) : EReal := Ideal.div (∑ d : Fin 64, w1A m c (ix2 d k)) ((64 : ℝ) : EReal)
@[inherit_doc w1Mean] def b1Mean : EReal := Ideal.div (∑ d : Fin 64, b1A m c (ix1 d)) ((64 : ℝ) : EReal)

/-- What column `j` of the first thirty-two adds: `-j` below column twenty-four, `-(j - 24)` from there on. -/
def offset (j : Fin 32) : BitVec 32 :=
  Scalar.select (IntOp.cmpi .slt (BitVec.ofNat 32 j.val) 24#32) (-BitVec.ofNat 32 j.val)
    (-IntOp.subi (BitVec.ofNat 32 j.val) 24#32)

/-- Every entry of the feature matrix, as the boxes written into it leave it. -/
theorem matrix (k : Fin 5) (j : Fin 96) :
    (V m c main_v50 : FVec Ideal S5x96 .f32) (ix2 k j)
      = if q : 4 = k.val ∧ 32 ≤ j.val ∧ j.val - 32 < 64 then b1A m c (ix1 ⟨j.val - 32, q.2.2⟩) - b1Mean m c
        else if q : 4 = k.val ∧ j.val < 32 then FloatOps.sitofp (F := Ideal) .f32 (offset ⟨j.val, q.2⟩)
        else if q : (2 ≤ k.val ∧ k.val - 2 < 2) ∧ 32 ≤ j.val ∧ j.val - 32 < 64 then
          w1A m c (ix2 ⟨j.val - 32, q.2.2⟩ ⟨k.val - 2, q.1.2⟩) - w1Mean m c ⟨k.val - 2, q.1.2⟩
        else if 1 = k.val ∧ 24 ≤ j.val ∧ j.val - 24 < 8 then 1
        else if 0 = k.val ∧ j.val < 24 then 1 else (0 : EReal) := by
  unfold V
  simp only [hostOps0, hostOps0_1, hostOps0_2, List.flatten_cons, List.flatten_nil, List.append_nil, List.cons_append,
    List.nil_append]
  after_results_simp
  after_results_loop
  try simp -implicitDefEqProofs only [StableHlo.TRef.toBuf, StableHlo.TRef.ofBuf, cast_cast, cast_eq]
  clean_types
  rw [Place.row _ _ _ _ 4 32 (fun _ => rfl) (fun _ => rfl) (fun _ => rfl) (fun _ => rfl)]
  rw [Place.row _ _ _ _ 4 0 (fun _ => rfl) (fun _ => rfl) (fun _ => rfl) (fun _ => rfl)]
  rw [Place.box _ _ _ _ 2 32 (fun _ => rfl) (fun _ => rfl) (fun _ => rfl) (fun _ => rfl)]
  rw [Place.row _ _ _ _ 1 24 (fun _ => rfl) (fun _ => rfl) (fun _ => rfl) (fun _ => rfl)]
  rw [Place.row _ _ _ _ 0 0 (fun _ => rfl) (fun _ => rfl) (fun _ => rfl) (fun _ => rfl)]
  pointwise
  simp only [read5, read6, Consts.lit_64]
  rfl

/-- The row that the columns are compared with: zero in the first thirty-two, the least extended real in the others. -/
theorem compared (j : Fin 96) :
    (V m c main_v54 : FVec Ideal S1x96 .f32) (ix2 0 j) = if j.val < 32 then (0 : EReal) else ⊥ := by
  unfold V
  after_reads_simp
  clean_types
  pointwise
  after_reads_simp
  clean_types
  pointwise
  simp only [Consts.lit_nan]
  rfl

/-- The matrix that averages squares: one sixty-fourth in the last sixty-four rows, zero above. -/
theorem averaging (i j : Fin 96) :
    (V m c main_v58 : FVec Ideal S96x96 .f32) (ix2 i j) = if 32 ≤ i.val then ((1 / 64 : ℝ) : EReal) else 0 := by
  unfold V
  after_reads_simp
  clean_types
  rw [Place.box _ _ _ _ 32 0 (fun _ => rfl) (fun _ => rfl) (fun _ => rfl) (fun _ => rfl)]
  pointwise
  simp only [Consts.lit_inv64]
  exact if_congr (by omega) rfl rfl

/-- The row of the learned scale: zero in the first thirty-two columns, the scale in the others. -/
theorem gammaRow (j : Fin 96) :
    (V m c main_v61 : FVec Ideal S1x96 .f32) (ix2 0 j)
      = if q : j.val < 32 then (0 : EReal) else gammaA m c (ix1 ⟨j.val - 32, by omega⟩) := by
  unfold V
  after_reads_simp
  clean_types
  pointwise
  after_reads_simp
  clean_types
  pointwise
  rfl

/-- The row of the learned shift: zero in the first thirty-two columns, the shift in the others. -/
theorem betaRow (j : Fin 96) :
    (V m c main_v64 : FVec Ideal S1x96 .f32) (ix2 0 j)
      = if q : j.val < 32 then (0 : EReal) else betaA m c (ix1 ⟨j.val - 32, by omega⟩) := by
  unfold V
  after_reads_simp
  clean_types
  pointwise
  after_reads_simp
  clean_types
  pointwise
  rfl

/-- The matrix of the last product: the two tables in the upper left corner, each at its own place, the second layer's weights
    transposed in the lower right, zero elsewhere. -/
theorem tables (j : Fin 96) (k : Fin 128) :
    (V m c main_v83 : FVec Ideal S96x128 .f32) (ix2 j k)
      = if q : (32 ≤ j.val ∧ j.val - 32 < 64) ∧ 64 ≤ k.val ∧ k.val - 64 < 64 then
          w2A m c (ix2 ⟨k.val - 64, q.2.2⟩ ⟨j.val - 32, q.1.2⟩)
        else if j.val < 32 ∧ k.val < 64 then
          (if q : (24 ≤ j.val ∧ j.val - 24 < 7) ∧ 32 ≤ k.val ∧ k.val - 32 < 32 then
            weekT m c (ix2 ⟨j.val - 24, q.1.2⟩ ⟨k.val - 32, q.2.2⟩)
          else if q : j.val < 24 ∧ k.val < 32 then hourT m c (ix2 ⟨j.val, q.1⟩ ⟨k.val, q.2⟩) else 0)
        else (0 : EReal) := by
  unfold V
  simp only [hostOps0, hostOps0_1, hostOps0_2, List.flatten_cons, List.flatten_nil, List.append_nil, List.cons_append,
    List.nil_append]
  after_results_simp
  after_results_loop
  clean_types
  rw [Place.box _ _ _ _ 32 64 (fun _ => rfl) (fun _ => rfl) (fun _ => rfl) (fun _ => rfl)]
  rw [Place.box _ _ _ _ 0 0 (fun _ => rfl) (fun _ => rfl) (fun _ => rfl) (fun _ => rfl)]
  refine dite_congr rfl (fun _ => ?_) fun _ => ?_
  · pointwise
    rfl
  · rw [← dite_eq_ite]
    refine dite_congr (by simp only [Nat.sub_zero, Nat.zero_le, true_and]) (fun _ => ?_) fun _ => by pointwise
    rw [Place.box _ _ _ _ 24 32 (fun _ => rfl) (fun _ => rfl) (fun _ => rfl) (fun _ => rfl)]
    rw [Place.box _ _ _ _ 0 0 (fun _ => rfl) (fun _ => rfl) (fun _ => rfl) (fun _ => rfl)]
    pointwise
    rfl

/-- The bias row: zero in the first sixty-four columns, the second layer's bias in the others. -/
theorem biasRow (k : Fin 128) :
    (V m c main_v86 : FVec Ideal S1x128 .f32) (ix2 0 k)
      = if q : k.val < 64 then (0 : EReal) else b2A m c (ix1 ⟨k.val - 64, by omega⟩) := by
  unfold V
  after_reads_simp
  clean_types
  pointwise
  after_reads_simp
  clean_types
  pointwise
  rfl

end Cert.Operands
-- ==== Proof.Packed.lean ====
/-
  The matrices of Operands.lean, together with one row's features, are the ones that Row.lean asks for.
-/
module

public import proofs.«01_k».proof.Proof.Operands
public import proofs.«01_k».proof.Proof.Row
public import Idealize.ShloMosaic.Lib.WordArith

@[expose] public section
set_option maxRecDepth 16384

noncomputable section

namespace Cert.Packed

open Idealize.ShloMosaic Idealize.ShloMosaic.TcCoe Idealize.SL.Sem
open Cert.KernelIdeal Cert.KernelIdeal.Gen Cert.Operands

variable (m : (ℓ : Loc nD τ sig) → Buf (Elt Ideal) ℓ) (c : Dev nD)

/-- The network's weights, from the launch arguments. -/
def net : Spec.Net where
  w1 d k := w1A m c (ix2 d k)
  b1 d := b1A m c (ix1 d)
  gamma d := gammaA m c (ix1 d)
  beta d := betaA m c (ix1 d)
  w2 e d := w2A m c (ix2 e d)
  b2 e := b2A m c (ix1 e)

/-- What the precondition gives: every hour and weekday in range, every number of the first layer real. -/
structure Good : Prop where
  hour : ∀ b l, ∃ h : Fin 24, hourA m c (ix2 b l) = BitVec.ofNat 32 h.val
  week : ∀ b l, ∃ w : Fin 7, weekA m c (ix2 b l) = BitVec.ofNat 32 w.val
  feat : ∀ b l k, ∃ r : ℝ, sincosA m c (ix3 b l k) = (r : EReal)
  weight : ∀ d k, ∃ r : ℝ, w1A m c (ix2 d k) = (r : EReal)
  bias : ∀ d, ∃ r : ℝ, b1A m c (ix1 d) = (r : EReal)

/-- A small number's word, as a number. -/
theorem word_real (n : ℕ) (hn : n < 2 ^ 31) :
    FloatOps.sitofp (F := Ideal) .f32 (BitVec.ofNat 32 n) = ((n : ℝ) : EReal) := by
  show (((BitVec.ofNat 32 n).toInt : ℝ) : EReal) = _
  rw [WordArith.toInt_ofNat_small n hn]
  simp

/-- What an hour column subtracts. -/
theorem offset_hour (j : Fin 24) :
    FloatOps.sitofp (F := Ideal) .f32 (offset ⟨j.val, by omega⟩) = ((-(j.val : ℝ) : ℝ) : EReal) := by
  have e : (offset ⟨j.val, by omega⟩).toInt = -(j.val : ℤ) := by revert j; decide
  show (((offset ⟨j.val, by omega⟩).toInt : ℝ) : EReal) = _
  rw [e]
  simp

/-- What a weekday column subtracts. -/
theorem offset_week (j : Fin 8) :
    FloatOps.sitofp (F := Ideal) .f32 (offset ⟨24 + j.val, by omega⟩) = ((-(j.val : ℝ) : ℝ) : EReal) := by
  have e : (offset ⟨24 + j.val, by omega⟩).toInt = -(j.val : ℤ) := by revert j; decide
  show (((offset ⟨24 + j.val, by omega⟩).toInt : ℝ) : EReal) = _
  rw [e]
  simp

/-- The matrices and the features of row `(b, l)`. -/
theorem holds (G : Good m c) (b : Fin 16384) (l : Fin 50) (h : Fin 24) (w : Fin 7)
    (hh : hourA m c (ix2 b l) = BitVec.ofNat 32 h.val) (hw : weekA m c (ix2 b l) = BitVec.ofNat 32 w.val)
    (t : Fin 32) (r : Fin 25600) (hb : b.val = t.val * 512 + r.val / 50) (hl : l.val = r.val % 50) :
    Row.Holds (fun k => (V m c main_v7 : FVec Ideal S32x5x25600 .f32) (ix3 t k r))
      (fun k j => (V m c main_v50 : FVec Ideal S5x96 .f32) (ix2 k j))
      (fun j => (V m c main_v54 : FVec Ideal S1x96 .f32) (ix2 0 j))
      (fun i j => (V m c main_v58 : FVec Ideal S96x96 .f32) (ix2 i j))
      (fun j => (V m c main_v61 : FVec Ideal S1x96 .f32) (ix2 0 j))
      (fun j => (V m c main_v64 : FVec Ideal S1x96 .f32) (ix2 0 j))
      (fun j k => (V m c main_v83 : FVec Ideal S96x128 .f32) (ix2 j k))
      (fun k => (V m c main_v86 : FVec Ideal S1x128 .f32) (ix2 0 k))
      (net m c) (fun k => sincosA m c (ix3 b l k)) (fun i d => hourT m c (ix2 i d)) (fun i d => weekT m c (ix2 i d)) h w where
  sReal := G.feat b l
  wReal := G.weight
  bReal := G.bias
  feats := by
    funext k
    rw [features m c t k r b l hb hl, hh, hw, word_real _ (by omega), word_real _ (by omega)]
  colHour j := by
    funext k
    rw [matrix, ← offset_hour j]
    have := j.isLt
    fin_cases k <;> simp [Row.lo]
    all_goals first | (rw [dif_neg (by omega), dif_pos (by omega)]) | (intros; exfalso; omega)
  colWeek j := by
    funext k
    rw [matrix, ← offset_week j]
    have := j.isLt
    fin_cases k <;> simp [Row.lo]
    all_goals first | (rw [dif_neg (by omega), dif_pos (by omega)]) | (intros; exfalso; omega)
  colLin d := by
    funext k
    rw [matrix]
    have := d.isLt
    fin_cases k <;> simp [Row.hi, net, w1Mean, b1Mean]
    all_goals first | (rw [dif_neg (by omega), dif_pos (by omega)]) | (intros; exfalso; omega)
  zLo i := by rw [compared, if_pos (show (Row.lo i).val < 32 from i.isLt)]
  zHi d := by rw [compared, if_neg (show ¬ (Row.hi d).val < 32 by simp [Row.hi])]
  aLo i j := by rw [averaging, if_neg (show ¬ 32 ≤ (Row.lo i).val by simp [Row.lo])]
  aHi d j := by rw [averaging, if_pos (show 32 ≤ (Row.hi d).val by simp [Row.hi])]
  gLo i := by rw [gammaRow, dif_pos (show (Row.lo i).val < 32 from i.isLt)]
  gHi d := by
    rw [gammaRow, dif_neg (show ¬ (Row.hi d).val < 32 by simp [Row.hi])]
    simp [Row.hi, net]
  eLo i := by rw [betaRow, dif_pos (show (Row.lo i).val < 32 from i.isLt)]
  eHi d := by
    rw [betaRow, dif_neg (show ¬ (Row.hi d).val < 32 by simp [Row.hi])]
    simp [Row.hi, net]
  tHour j k := by
    have e : (Row.lo ⟨j.val, by omega⟩).val = j.val := rfl
    rw [tables, dif_neg (by omega)]
    by_cases q : k.val < 32
    · rw [if_pos (by omega), dif_neg (by omega), dif_pos (by omega), dif_pos q]
      rfl
    · by_cases q' : k.val < 64
      · rw [if_pos (by omega), dif_neg (by omega), dif_neg (by omega), dif_neg q]
      · rw [if_neg (by omega), dif_neg q]
  tWeek j k := by
    have e : (Row.lo ⟨24 + j.val, by omega⟩).val = 24 + j.val := rfl
    rw [tables, dif_neg (by omega)]
    by_cases q : 32 ≤ k.val ∧ k.val - 32 < 32
    · rw [if_pos (by omega), dif_pos (by omega), dif_pos q]
      refine congrArg (fun i => weekT m c (ix2 i _)) (Fin.ext ?_)
      show 24 + j.val - 24 = j.val
      omega
    · by_cases q' : k.val < 64
      · rw [if_pos (by omega), dif_neg (by omega), dif_neg (by omega), dif_neg q]
      · rw [if_neg (by omega), dif_neg q]
  tLast k := by
    have e : (Row.lo ⟨31, by omega⟩).val = 31 := rfl
    rw [tables, dif_neg (by omega)]
    by_cases q : k.val < 64
    · rw [if_pos (by omega), dif_neg (by omega), dif_neg (by omega)]
    · rw [if_neg (by omega)]
  tHi d k := by
    have e : (Row.hi d).val = 32 + d.val := rfl
    rw [tables]
    by_cases q : 64 ≤ k.val
    · rw [dif_pos (by omega), dif_pos q]
      refine congrArg (fun i => w2A m c (ix2 _ i)) (Fin.ext ?_)
      show 32 + d.val - 32 = d.val
      omega
    · rw [dif_neg (by omega), if_neg (by omega), dif_neg q]
  bias k := by
    rw [biasRow]
    repeat' split
    all_goals first | rfl | (exfalso; omega)

end Cert.Packed
-- ==== Proof.Result.lean ====
/-
  The array that the kernel's region leaves: every entry is the row of Spec.lean.
-/
module

public import proofs.«01_k».proof.Proof.Block
public import proofs.«01_k».proof.Proof.Packed
public import Idealize.ShloMosaic.Lib.Pipeline.ValueKit

@[expose] public section
set_option maxRecDepth 16384
set_option maxHeartbeats 1000000

noncomputable section

namespace Cert.Result

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD)

/-- The block of the features and the block of the result move with the grid point, the other blocks stay. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] :=
  (by decide +kernel : ∀ t : Fin grid0.N, _)

/-- The features' block at grid point `t` is slab `t`. -/
theorem blk0 (t : Fin cfg0.N) (k : Fin 5) (r : Fin 25600) :
    (iblk m c 0 t : FVec Ideal S1x5x25600 .f32) (ix3 0 k r) = (V m c main_v7 : FVec Ideal S32x5x25600 .f32) (ix3 ⟨t.val, t.isLt⟩ k r) := by
  blk_ext [iblk, idx t]

theorem blk1 (t : Fin cfg0.N) : iblk m c 1 t = V m c main_v50 := by
  funext y
  blk_ext [iblk, idx t]

theorem blk2 (t : Fin cfg0.N) : iblk m c 2 t = V m c main_v54 := by
  funext y
  blk_ext [iblk, idx t]

theorem blk3 (t : Fin cfg0.N) : iblk m c 3 t = V m c main_v58 := by
  funext y
  blk_ext [iblk, idx t]

theorem blk4 (t : Fin cfg0.N) : iblk m c 4 t = V m c main_v61 := by
  funext y
  blk_ext [iblk, idx t]

theorem blk5 (t : Fin cfg0.N) : iblk m c 5 t = V m c main_v64 := by
  funext y
  blk_ext [iblk, idx t]

theorem blk6 (t : Fin cfg0.N) : iblk m c 6 t = V m c main_v83 := by
  funext y
  blk_ext [iblk, idx t]

theorem blk7 (t : Fin cfg0.N) : iblk m c 7 t = V m c main_v86 := by
  funext y
  blk_ext [iblk, idx t]

/-- One entry of the block that the region stores at grid point `t`, for row `b·50 + l` of the block. -/
theorem stored (G : Packed.Good m c) (t : Fin cfg0.N) (b' : Fin 512) (l : Fin 50) (k : Fin 128) (b : Fin 16384)
    (hb : b.val = t.val * 512 + b'.val) (h : Fin 24) (w : Fin 7)
    (hh : Operands.hourA m c (ix2 b l) = BitVec.ofNat 32 h.val) (hw : Operands.weekA m c (ix2 b l) = BitVec.ofNat 32 w.val) :
    k0_pay1 (F := Ideal) (k0_pay3 (iblk m c 0 t) (iblk m c 1 t) (iblk m c 2 t))
        (k0_pay4 (iblk m c 0 t) (iblk m c 1 t) (iblk m c 3 t) (iblk m c 4 t) (iblk m c 5 t))
        (k0_pay5 (View.ld (iblk m c 6 t) r0_4)) (View.ld (iblk m c 6 t) r0_5) (iblk m c 7 t) (ix3 b' l k)
      = Spec.row (Packed.net m c) (fun k => Operands.sincosA m c (ix3 b l k)) (fun i d => Operands.hourT m c (ix2 i d))
          (fun i d => Operands.weekT m c (ix2 i d)) h w k := by
  refine (Block.total_eq _ _ _ _ _ _ _ _ b' l k).trans ?_
  have e := Row.total_eq (Packed.holds m c G b l h w hh hw ⟨t.val, t.isLt⟩ ⟨b'.val * 50 + l.val, by omega⟩
    (by show b.val = t.val * 512 + (b'.val * 50 + l.val) / 50; omega) (by show l.val = (b'.val * 50 + l.val) % 50; omega)) k
  refine Eq.trans ?_ e
  simp only [blk0, blk1, blk2, blk3, blk4, blk5, blk6, blk7]

/-- The array after the last grid point is any array whose every entry is the row of Spec.lean. -/
theorem final (G : Packed.Good m c) (R : FVec Ideal S16384x50x128 .f32)
    (hR : ∀ (b : Fin 16384) (l : Fin 50) (k : Fin 128) (h : Fin 24) (w : Fin 7),
      Operands.hourA m c (ix2 b l) = BitVec.ofNat 32 h.val → Operands.weekA m c (ix2 b l) = BitVec.ofNat 32 w.val →
      R (ix3 b l k) = Spec.row (Packed.net m c) (fun k => Operands.sincosA m c (ix3 b l k))
        (fun i d => Operands.hourT m c (ix2 i d)) (fun i d => Operands.weekT m c (ix2 i d)) h w k) :
    (dats m 0 c).arrAt 8 cfg0.N = R := by
  refine (dats m 0 c).arrAt_eq_of_covers 8 _ (by decide +kernel) fun t _ y => ?_
  blk_simp
  rw [after0_8]
  frame_out
  obtain ⟨b', l, k, rfl⟩ : ∃ (b' : Fin 512) (l : Fin 50) (k : Fin 128), y = ix3 b' l k :=
    ⟨y 0, y 1, y 2, funext fun a => match a with
      | ⟨0, _⟩ => rfl
      | ⟨1, _⟩ => rfl
      | ⟨2, _⟩ => rfl⟩
  have ht : t.val < 32 := t.isLt
  obtain ⟨h, hh⟩ := G.hour ⟨t.val * 512 + b'.val, by omega⟩ l
  obtain ⟨w, hw⟩ := G.week ⟨t.val * 512 + b'.val, by omega⟩ l
  refine (stored m c G t b' l k ⟨t.val * 512 + b'.val, by omega⟩ rfl h w hh hw).trans ?_
  refine (hR _ l k h w hh hw).symm.trans (congrArg R ?_)
  blk_ext [idx t]

end Cert.Result
-- ==== Proof.lean ====
/-
  The proof of `Cert.Claim`: the three programs' frames, the named constant's statement, and the equation of the kernel's result
  and the reference's. The equation goes through the row of Spec.lean: Result.lean shows that the kernel's array holds it,
  RefValue.lean that the reference's does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_inputs_ok
public import proofs.«01_k».proof.Proof.Inputs
public import proofs.«01_k».proof.Proof.RefValue
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The stated facts of the four programs. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_inputs_ok.Facts := Cert.Pre_inputs_ok.Gen.facts

/-- The kernel runs, and leaves its arguments and counters as they were. -/
theorem frameKernel : Cert.quiescent_Kernel := fun m ρ _ => Cert.Kernel.Gen.frame m ρ

/-- The ideal kernel runs, and leaves its arguments and counters as they were. -/
theorem frameIdeal : Cert.quiescent_KernelIdeal := fun m ρ _ => Cert.KernelIdeal.Gen.frame m ρ

/-- The reference runs, and leaves its arguments as they were; it has no counters. -/
theorem frameReference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- What the precondition says of the launch arguments. -/
theorem good (m : (ℓ : Loc Cert.KernelIdeal.nD Cert.KernelIdeal.τ Cert.KernelIdeal.sig) → Buf (Elt Ideal) ℓ)
    (H : Cert.Pre_KernelIdeal_inputs_ok m) (c : Dev Cert.KernelIdeal.nD) : Cert.Packed.Good m c where
  hour b l := Cert.Inputs.hour _ _ _ _ _ _ _ _ _ _ _ (H c).1 b l
  week b l := Cert.Inputs.weekday _ _ _ _ _ _ _ _ _ _ _ (H c).2.1 b l
  feat b l k := Cert.Inputs.features _ _ _ _ _ _ _ _ _ _ _ (H c).2.2.1 b l k
  weight d k := Cert.Inputs.weights _ _ _ _ _ _ _ _ _ _ _ (H c).2.2.2.1 d k
  bias d := Cert.Inputs.bias _ _ _ _ _ _ _ _ _ _ _ (H c).2.2.2.2 d

/-- The kernel's result and the reference's are the same array. -/
theorem algebraic : Cert.algebraic_KernelIdeal_ReferenceIdeal_pre_inputs_ok := by
  intro m ρ m' ρ' H hagree
  refine ⟨fun c => Cert.ReferenceIdeal.Value.res_main_v45 m' c, ?_, Cert.ReferenceIdeal.Value.run (F := Ideal) m' ρ'⟩
  refine (θ_run Cert.KernelIdeal.defs _ _).mono (fun r h c => ⟨(h c).1.trans ?_, (h c).2⟩)
    (Cert.KernelIdeal.Value.run_blocks (F := Ideal) m ρ)
  refine Cert.Result.final m c (good m H c) _ fun b l k h w hh hw => ?_
  obtain ⟨a0, a1, a2, a3, a4, a5, a6, a7, a8, a9, a10⟩ := hagree c
  show Cert.ReferenceIdeal.Value.res_main_v45 m' c (ix3 b l k) = _
  rw [Cert.ReferenceIdeal.Read.val_main_v45_eq, a0, a1, a2, a3, a4, a5, a6, a7, a8, a9, a10]
  exact Cert.RefValue.result_eq _ _ _ _ _ _ _ _ _ _ _ b l h w hh hw k

/-- The certificate's claim. -/
theorem claim : Cert.Claim :=
  ⟨Cert.Kernel.Gen.facts, Cert.KernelIdeal.Gen.facts, Cert.ReferenceIdeal.Gen.facts, Cert.Pre_inputs_ok.Gen.facts,
    frameKernel, frameIdeal, fun m ρ _ => frameIdeal m ρ trivial, frameReference, fun m ρ _ => frameReference m ρ trivial,
    IdealRules.named_const.statement Cert.KernelIdeal.κ "inv_sqrt2" .f32 0x3F3504F3#32 _ rfl, algebraic⟩

end Cert.Proof

end
